-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_moderate [hPre_moderate : Cert.Pre_moderate.Facts] (m : (ℓ : Loc Cert.KernelIdeal.nD Cert.KernelIdeal.τ Cert.KernelIdeal.sig) → Buf (Elt Ideal) ℓ) : Prop :=
  ∀ c : Dev Cert.KernelIdeal.nD,
    (Cert.Pre_moderate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_moderate [hPre_moderate : Cert.Pre_moderate.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_moderate.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_moderate [hKernelIdeal : Cert.KernelIdeal.Facts] [hPre_moderate : Cert.Pre_moderate.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_moderate m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_moderate [hReferenceIdeal : Cert.ReferenceIdeal.Facts] [hPre_moderate : Cert.Pre_moderate.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_moderate m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_moderate [hKernelIdeal : Cert.KernelIdeal.Facts] [hReferenceIdeal : Cert.ReferenceIdeal.Facts] [hPre_moderate : Cert.Pre_moderate.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_moderate m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v103)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v103) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_moderate : Cert.Pre_moderate.Facts),
    quiescent_Kernel (hKernel := hKernel)
    ∧ quiescent_KernelIdeal (hKernelIdeal := hKernelIdeal)
    ∧ quiescent_KernelIdeal_pre_moderate (hKernelIdeal := hKernelIdeal) (hPre_moderate := hPre_moderate)
    ∧ quiescent_ReferenceIdeal (hReferenceIdeal := hReferenceIdeal)
    ∧ quiescent_ReferenceIdeal_pre_moderate (hReferenceIdeal := hReferenceIdeal) (hPre_moderate := hPre_moderate)
    ∧ preserves_Kernel_KernelIdeal
    ∧ algebraic_KernelIdeal_ReferenceIdeal_pre_moderate (hKernelIdeal := hKernelIdeal) (hReferenceIdeal := hReferenceIdeal) (hPre_moderate := hPre_moderate)
-- ==== Pre_moderate.lean ====
abbrev S64x4 : Shape := ⟨2, ![64, 4]⟩
abbrev S64x3 : Shape := ⟨2, ![64, 3]⟩
abbrev S64x3000x3 : Shape := ⟨3, ![64, 3000, 3]⟩
abbrev S64x1 : Shape := ⟨2, ![64, 1]⟩
abbrev S5 : Shape := ⟨1, ![5]⟩
abbrev S64 : Shape := ⟨1, ![64]⟩
abbrev S1x5 : Shape := ⟨2, ![1, 5]⟩
abbrev S64x5 : Shape := ⟨2, ![64, 5]⟩
abbrev S_ : Shape := ⟨0, ![]⟩

class Facts : Prop where
  shapeCasts_S64x1_S64 : S64x1.ShapeCasts S64
  bcast_S64_S64x1_0 : S64.BroadcastsInDim S64x1 (![0] : Fin 1 → Fin S64x1.rank)
  bcast_S5_S1x5_1 : S5.BroadcastsInDim S1x5 (![1] : Fin 1 → Fin S1x5.rank)
  bcast_S64x1_S64x5_0_1 : S64x1.BroadcastsInDim S64x5 (![0, 1] : Fin 2 → Fin S64x5.rank)
  bcast_S1x5_S64x5_0_1 : S1x5.BroadcastsInDim S64x5 (![0, 1] : Fin 2 → Fin S64x5.rank)
  reducesTo_S64x5_S64_d1 : S64x5.ReducesTo [1] S64
  h_S_ : 0 < S_.numel
  reducesTo_S64x4_S64_d1 : S64x4.ReducesTo [1] S64
  bcast_S_S64 : S_.BroadcastsInDim S64 (![] : Fin 0 → Fin S64.rank)
  bcast_S_S64x3 : S_.BroadcastsInDim S64x3 (![] : Fin 0 → Fin S64x3.rank)
  reducesTo_S64x3_S64_d1 : S64x3.ReducesTo [1] S64
  bcast_S_S64x3000x3 : S_.BroadcastsInDim S64x3000x3 (![] : Fin 0 → Fin S64x3000x3.rank)
  reducesTo_S64x3000x3_S64_d1_2 : S64x3000x3.ReducesTo [1, 2] S64
  reducesTo_S64_S_d0 : S64.ReducesTo [0] S_

variable [Facts]

noncomputable abbrev lit0 : Fin 5 → BitVec 32 := fun
  | 0 => 12#32 | 1 => 15#32 | 2 => 18#32 | 3 => 19#32 | 4 => 20#32
  | _ => 0#32

def fn_part1 {F : FTy → Type} [FloatOps F] (main_arg3 : FVec F S64x3000x3 .f32) (main_v6 : IVec S64 1) (main_v15 : IVec S64 1) (main_v16 : FVec F S64x3000x3 .f32) (main_cst_4 : FVec F S_ .f32) : IVec S_ 1 :=
  let main_v17 : FVec F S64x3000x3 .f32 := broadcastInDim S64x3000x3 ![] bcast_S_S64x3000x3 main_cst_4
  let main_v18 : IVec S64x3000x3 1 := cmpf .ole main_v16 main_v17
  let main_c_5 : IVec S_ 1 := constantI S_ 1 1#1
  let main_v19 : IVec S64 1 := (fun x v => Host.reduce IntOp.andi x v reducesTo_S64x3000x3_S64_d1_2 h_S_) main_v18 main_c_5
  let main_v20 : IVec S64 1 := andi main_v15 main_v19
  let main_v21 : FVec F S64x3000x3 .f32 := Host.absf main_arg3
  let main_cst_6 : FVec F S_ .f32 := constant S_ .f32 0x551184E7#32
  let main_v22 : FVec F S64x3000x3 .f32 := broadcastInDim S64x3000x3 ![] bcast_S_S64x3000x3 main_cst_6
  let main_v23 : IVec S64x3000x3 1 := cmpf .ole main_v21 main_v22
  let main_c_7 : IVec S_ 1 := constantI S_ 1 1#1
  let main_v24 : IVec S64 1 := (fun x v => Host.reduce IntOp.andi x v reducesTo_S64x3000x3_S64_d1_2 h_S_) main_v23 main_c_7
  let main_v25 : IVec S64 1 := andi main_v20 main_v24
  let main_v26 : IVec S64 1 := ori main_v6 main_v25
  let main_c_8 : IVec S_ 1 := constantI S_ 1 1#1
  let main_v27 : IVec S_ 1 := (fun x v => Host.reduce IntOp.andi x v reducesTo_S64_S_d0 h_S_) main_v26 main_c_8
  main_v27

def fn {F : FTy → Type} [FloatOps F] (main_arg0 : FVec F S64x4 .f32) (main_arg1 : FVec F S64x3 .f32) (main_arg2 : FVec F S64x3000x3 .f32) (main_arg3 : FVec F S64x3000x3 .f32) (main_arg4 : IVec S64x1 32) : IVec S_ 1 :=
  let main_c : IVec S5 32 := fun i => lit0 (S5.rowMajor i)
  let main_v0 : IVec S64 32 := shapeCast S64 main_arg4 shapeCasts_S64x1_S64
  let main_v1 : IVec S64x1 32 := broadcastInDim S64x1 ![0] bcast_S64_S64x1_0 main_v0
  let main_v2 : IVec S1x5 32 := broadcastInDim S1x5 ![1] bcast_S5_S1x5_1 main_c
  let main_v3 : IVec S64x5 32 := broadcastInDim S64x5 ![0, 1] bcast_S64x1_S64x5_0_1 main_v1
  let main_v4 : IVec S64x5 32 := broadcastInDim S64x5 ![0, 1] bcast_S1x5_S64x5_0_1 main_v2
  let main_v5 : IVec S64x5 1 := cmpi .ne main_v3 main_v4
  let main_c_0 : IVec S_ 1 := constantI S_ 1 1#1
  let main_v6 : IVec S64 1 := (fun x v => Host.reduce IntOp.andi x v reducesTo_S64x5_S64_d1 h_S_) main_v5 main_c_0
  let main_v7 : FVec F S64x4 .f32 := Host.absf main_arg0
  let main_cst : FVec F S_ .f32 := constant S_ .f32 0xFF800000#32
  let main_v8 : FVec F S64 .f32 := (fun x v => Host.reduce FloatOps.maximumf x v reducesTo_S64x4_S64_d1 h_S_) main_v7 main_cst
  let main_cst_1 : FVec F S_ .f32 := constant S_ .f32 0x00000000#32
  let main_v9 : FVec F S64 .f32 := broadcastInDim S64 ![] bcast_S_S64 main_cst_1
  let main_v10 : IVec S64 1 := cmpf .ogt main_v8 main_v9
  let main_v11 : FVec F S64x3 .f32 := Host.absf main_arg1
  let main_cst_2 : FVec F S_ .f32 := constant S_ .f32 0x551184E7#32
  let main_v12 : FVec F S64x3 .f32 := broadcastInDim S64x3 ![] bcast_S_S64x3 main_cst_2
  let main_v13 : IVec S64x3 1 := cmpf .ole main_v11 main_v12
  let main_c_3 : IVec S_ 1 := constantI S_ 1 1#1
  let main_v14 : IVec S64 1 := (fun x v => Host.reduce IntOp.andi x v reducesTo_S64x3_S64_d1 h_S_) main_v13 main_c_3
  let main_v15 : IVec S64 1 := andi main_v10 main_v14
  let main_v16 : FVec F S64x3000x3 .f32 := Host.absf main_arg2
  let main_cst_4 : FVec F S_ .f32 := constant S_ .f32 0x551184E7#32
  fn_part1 (F := F) main_arg3 main_v6 main_v15 main_v16 main_cst_4
-- ==== Kernel.lean ====
abbrev S64x4 : Shape := ⟨2, ![64, 4]⟩
abbrev S64x3 : Shape := ⟨2, ![64, 3]⟩
abbrev S64x3000x3 : Shape := ⟨3, ![64, 3000, 3]⟩
abbrev S64x1 : Shape := ⟨2, ![64, 1]⟩
abbrev S5 : Shape := ⟨1, ![5]⟩
abbrev S_ : Shape := ⟨0, ![]⟩
abbrev S64 : Shape := ⟨1, ![64]⟩
abbrev S1x5 : Shape := ⟨2, ![1, 5]⟩
abbrev S64x5 : Shape := ⟨2, ![64, 5]⟩
abbrev S64x16 : Shape := ⟨2, ![64, 16]⟩
abbrev S64x1x16 : Shape := ⟨3, ![64, 1, 16]⟩
abbrev S64x3x3000 : Shape := ⟨3, ![64, 3, 3000]⟩
abbrev S64x3x3072 : Shape := ⟨3, ![64, 3, 3072]⟩
abbrev S64x3x24x128 : Shape := ⟨4, ![64, 3, 24, 128]⟩
abbrev S64x1x1 : Shape := ⟨3, ![64, 1, 1]⟩
abbrev S1x1x16 : Shape := ⟨3, ![1, 1, 16]⟩
abbrev S1x3x3072 : Shape := ⟨3, ![1, 3, 3072]⟩
abbrev S1x3x24x128 : Shape := ⟨4, ![1, 3, 24, 128]⟩
abbrev S1x1x1 : Shape := ⟨3, ![1, 1, 1]⟩
abbrev S1x3072 : Shape := ⟨2, ![1, 3072]⟩
abbrev S1x1x3072 : Shape := ⟨3, ![1, 1, 3072]⟩
abbrev S1x1x24x128 : Shape := ⟨4, ![1, 1, 24, 128]⟩
abbrev S24x128 : Shape := ⟨2, ![24, 128]⟩
abbrev S128x24 : Shape := ⟨2, ![128, 24]⟩
abbrev S128x1 : Shape := ⟨2, ![128, 1]⟩
abbrev S128x3072 : Shape := ⟨2, ![128, 3072]⟩
abbrev S3072 : Shape := ⟨1, ![3072]⟩
abbrev S1 : Shape := ⟨1, ![1]⟩
abbrev S1x1 : Shape := ⟨2, ![1, 1]⟩

abbrev nBuf : Space → Nat
  | .hbm => 133
  | .vmem => 8
  | .smem => 2
  | _ => 0

abbrev hbmTy0_0 (i : Nat) : BufTy := match i % 128 with
  | 0 => ⟨S64x4, .f32⟩
  | 1 => ⟨S64x3, .f32⟩
  | 2 => ⟨S64x3000x3, .f32⟩
  | 3 => ⟨S64x3000x3, .f32⟩
  | 4 => ⟨S64x1, .i32⟩
  | 5 => ⟨S5, .i32⟩
  | 6 => ⟨S64x4, .f32⟩
  | 7 => ⟨S_, .f32⟩
  | 8 => ⟨S64, .f32⟩
  | 9 => ⟨S64x1, .f32⟩
  | 10 => ⟨S64x1, .f32⟩
  | 11 => ⟨S64x4, .f32⟩
  | 12 => ⟨S64x4, .f32⟩
  | 13 => ⟨S64x1, .f32⟩
  | 14 => ⟨S64, .f32⟩
  | 15 => ⟨S64x1, .f32⟩
  | 16 => ⟨S64, .f32⟩
  | 17 => ⟨S64x1, .f32⟩
  | 18 => ⟨S64, .f32⟩
  | 19 => ⟨S64x1, .f32⟩
  | 20 => ⟨S64, .f32⟩
  | 21 => ⟨S64, .f32⟩
  | 22 => ⟨S64, .f32⟩
  | 23 => ⟨S64, .f32⟩
  | 24 => ⟨S_, .f32⟩
  | 25 => ⟨S64, .f32⟩
  | 26 => ⟨S64, .f32⟩
  | 27 => ⟨S_, .f32⟩
  | 28 => ⟨S64, .f32⟩
  | 29 => ⟨S64, .f32⟩
  | 30 => ⟨S64, .f32⟩
  | 31 => ⟨S64, .f32⟩
  | 32 => ⟨S64, .f32⟩
  | 33 => ⟨S_, .f32⟩
  | 34 => ⟨S64, .f32⟩
  | 35 => ⟨S64, .f32⟩
  | 36 => ⟨S64, .f32⟩
  | 37 => ⟨S64, .f32⟩
  | 38 => ⟨S64, .f32⟩
  | 39 => ⟨S_, .f32⟩
  | 40 => ⟨S64, .f32⟩
  | 41 => ⟨S64, .f32⟩
  | 42 => ⟨S64, .f32⟩
  | 43 => ⟨S64, .f32⟩
  | 44 => ⟨S64, .f32⟩
  | 45 => ⟨S_, .f32⟩
  | 46 => ⟨S64, .f32⟩
  | 47 => ⟨S64, .f32⟩
  | 48 => ⟨S64, .f32⟩
  | 49 => ⟨S64, .f32⟩
  | 50 => ⟨S64, .f32⟩
  | 51 => ⟨S_, .f32⟩
  | 52 => ⟨S64, .f32⟩
  | 53 => ⟨S64, .f32⟩
  | 54 => ⟨S_, .f32⟩
  | 55 => ⟨S64, .f32⟩
  | 56 => ⟨S64, .f32⟩
  | 57 => ⟨S64, .f32⟩
  | 58 => ⟨S64, .f32⟩
  | 59 => ⟨S64, .f32⟩
  | 60 => ⟨S_, .f32⟩
  | 61 => ⟨S64, .f32⟩
  | 62 => ⟨S64, .f32⟩
  | 63 => ⟨S64, .f32⟩
  | 64 => ⟨S64, .f32⟩
  | 65 => ⟨S64, .f32⟩
  | 66 => ⟨S_, .f32⟩
  | 67 => ⟨S64, .f32⟩
  | 68 => ⟨S64, .f32⟩
  | 69 => ⟨S64, .f32⟩
  | 70 => ⟨S64, .f32⟩
  | 71 => ⟨S64, .f32⟩
  | 72 => ⟨S_, .f32⟩
  | 73 => ⟨S64, .f32⟩
  | 74 => ⟨S64, .f32⟩
  | 75 => ⟨S64, .f32⟩
  | 76 => ⟨S64, .f32⟩
  | 77 => ⟨S64, .f32⟩
  | 78 => ⟨S_, .f32⟩
  | 79 => ⟨S64, .f32⟩
  | 80 => ⟨S64, .f32⟩
  | 81 => ⟨S_, .f32⟩
  | 82 => ⟨S64, .f32⟩
  | 83 => ⟨S64, .f32⟩
  | 84 => ⟨S64, .i32⟩
  | 85 => ⟨S64x1, .i32⟩
  | 86 => ⟨S1x5, .i32⟩
  | 87 => ⟨S64x5, .i32⟩
  | 88 => ⟨S64x5, .i32⟩
  | 89 => ⟨S64x5, .i1⟩
  | 90 => ⟨S_, .i1⟩
  | 91 => ⟨S64, .i1⟩
  | 92 => ⟨S64, .f32⟩
  | 93 => ⟨S_, .f32⟩
  | 94 => ⟨S64, .f32⟩
  | 95 => ⟨S64x1, .f32⟩
  | 96 => ⟨S64, .f32⟩
  | 97 => ⟨S64x1, .f32⟩
  | 98 => ⟨S64, .f32⟩
  | 99 => ⟨S64x1, .f32⟩
  | 100 => ⟨S64, .f32⟩
  | 101 => ⟨S64x1, .f32⟩
  | 102 => ⟨S64x1, .f32⟩
  | 103 => ⟨S64x1, .f32⟩
  | 104 => ⟨S64x1, .f32⟩
  | 105 => ⟨S64x1, .f32⟩
  | 106 => ⟨S64x1, .f32⟩
  | 107 => ⟨S64x1, .f32⟩
  | 108 => ⟨S64x1, .f32⟩
  | 109 => ⟨S64x1, .f32⟩
  | 110 => ⟨S64x1, .f32⟩
  | 111 => ⟨S64x1, .f32⟩
  | 112 => ⟨S64x1, .f32⟩
  | 113 => ⟨S64x1, .f32⟩
  | 114 => ⟨S64x1, .f32⟩
  | 115 => ⟨S64x1, .f32⟩
  | 116 => ⟨S64x1, .f32⟩
  | 117 => ⟨S64x16, .f32⟩
  | 118 => ⟨S64x1x16, .f32⟩
  | 119 => ⟨S64x3x3000, .f32⟩
  | 120 => ⟨S_, .i32⟩
  | 121 => ⟨S_, .f32⟩
  | 122 => ⟨S64x3x3072, .f32⟩
  | 123 => ⟨S64x3x3000, .f32⟩
  | 124 => ⟨S_, .f32⟩
  | 125 => ⟨S_, .f32⟩
  | 126 => ⟨S64x3x3072, .f32⟩
  | 127 => ⟨S64x3x24x128, .f32⟩
  | _ => ⟨S64x4, .f32⟩

abbrev hbmTy0_1 (i : Nat) : BufTy := match i % 128 with
  | 0 => ⟨S64x1x1, .f32⟩
  | 1 => ⟨S64, .f32⟩
  | 2 => ⟨S_, .f32⟩
  | 3 => ⟨S64, .f32⟩
  | 4 => ⟨S64, .f32⟩
  | _ => ⟨S64x4, .f32⟩

abbrev hbmTy (i : Nat) : BufTy := match i / 128 with
  | 0 => hbmTy0_0 i
  | 1 => hbmTy0_1 i
  | _ => ⟨S64x4, .f32⟩

abbrev bufTy : (tb : Table) → Fin (tcTables nBuf tb) → BufTy
  | .hbm, ⟨i, _⟩ => hbmTy i
  | .local _ .vmem, ⟨0, _⟩ => ⟨S1x3x3072, .f32⟩
  | .local _ .vmem, ⟨1, _⟩ => ⟨S1x3x3072, .f32⟩
  | .local _ .vmem, ⟨2, _⟩ => ⟨S1x3x3072, .f32⟩
  | .local _ .vmem, ⟨3, _⟩ => ⟨S1x3x3072, .f32⟩
  | .local _ .vmem, ⟨4, _⟩ => ⟨S1x3x24x128, .f32⟩
  | .local _ .vmem, ⟨5, _⟩ => ⟨S1x3x24x128, .f32⟩
  | .local _ .vmem, ⟨6, _⟩ => ⟨S1x1x1, .f32⟩
  | .local _ .vmem, ⟨7, _⟩ => ⟨S1x1x1, .f32⟩
  | .local _ .smem, ⟨0, _⟩ => ⟨S1x1x16, .f32⟩
  | .local _ .smem, ⟨1, _⟩ => ⟨S1x1x16, .f32⟩
  | _, _ => ⟨S64x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_call0_cst : Ref sig .tc := ⟨.hbm, 7, rfl⟩
abbrev main_call0_v1 : Ref sig .tc := ⟨.hbm, 8, rfl⟩
abbrev main_call0_v2 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_cst_0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_3 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_4 : Ref sig .tc := ⟨.hbm, 51, rfl⟩
abbrev main_v36 : Ref sig .tc := ⟨.hbm, 52, rfl⟩
abbrev main_v37 : Ref sig .tc := ⟨.hbm, 53, rfl⟩
abbrev main_cst_5 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_6 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_7 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_8 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_9 : Ref sig .tc := ⟨.hbm, 78, rfl⟩
abbrev main_v58 : Ref sig .tc := ⟨.hbm, 79, rfl⟩
abbrev main_v59 : Ref sig .tc := ⟨.hbm, 80, rfl⟩
abbrev main_cst_10 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_c_11 : Ref sig .tc := ⟨.hbm, 90, rfl⟩
abbrev main_v68 : Ref sig .tc := ⟨.hbm, 91, rfl⟩
abbrev main_v69 : Ref sig .tc := ⟨.hbm, 92, rfl⟩
abbrev main_cst_12 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_c_13 : Ref sig .tc := ⟨.hbm, 120, rfl⟩
abbrev main_call1_v0 : Ref sig .tc := ⟨.hbm, 121, rfl⟩
abbrev main_v96 : Ref sig .tc := ⟨.hbm, 122, rfl⟩
abbrev main_v97 : Ref sig .tc := ⟨.hbm, 123, rfl⟩
abbrev main_cst_14 : Ref sig .tc := ⟨.hbm, 124, rfl⟩
abbrev main_call2_v0 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_cst_15 : Ref sig .tc := ⟨.hbm, 130, rfl⟩
abbrev main_v102 : Ref sig .tc := ⟨.hbm, 131, rfl⟩
abbrev main_v103 : Ref sig .tc := ⟨.hbm, 132, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .smem S1x1x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x3x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x3x24x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S64x4 : Shape := ⟨2, ![64, 4]⟩
abbrev S64x3 : Shape := ⟨2, ![64, 3]⟩
abbrev S64x3000x3 : Shape := ⟨3, ![64, 3000, 3]⟩
abbrev S64x1 : Shape := ⟨2, ![64, 1]⟩
abbrev S5 : Shape := ⟨1, ![5]⟩
abbrev S_ : Shape := ⟨0, ![]⟩
abbrev S64 : Shape := ⟨1, ![64]⟩
abbrev S64x1x3 : Shape := ⟨3, ![64, 1, 3]⟩
abbrev S64x3x3 : Shape := ⟨3, ![64, 3, 3]⟩
abbrev S64x3000 : Shape := ⟨2, ![64, 3000]⟩
abbrev S64x3000x1 : Shape := ⟨3, ![64, 3000, 1]⟩
abbrev S64x1x3000 : Shape := ⟨3, ![64, 1, 3000]⟩
abbrev S64x3000x3000 : Shape := ⟨3, ![64, 3000, 3000]⟩
abbrev S1x5 : Shape := ⟨2, ![1, 5]⟩
abbrev S64x5 : Shape := ⟨2, ![64, 5]⟩
abbrev S64x1x1 : Shape := ⟨3, ![64, 1, 1]⟩

abbrev nBuf : Space → Nat
  | .hbm => 155
  | .vmem => 0
  | .smem => 0
  | _ => 0

abbrev hbmTy0_0 (i : Nat) : BufTy := match i % 128 with
  | 0 => ⟨S64x4, .f32⟩
  | 1 => ⟨S64x3, .f32⟩
  | 2 => ⟨S64x3000x3, .f32⟩
  | 3 => ⟨S64x3000x3, .f32⟩
  | 4 => ⟨S64x1, .i32⟩
  | 5 => ⟨S5, .i32⟩
  | 6 => ⟨S64x4, .f32⟩
  | 7 => ⟨S_, .f32⟩
  | 8 => ⟨S64, .f32⟩
  | 9 => ⟨S64x1, .f32⟩
  | 10 => ⟨S64x1, .f32⟩
  | 11 => ⟨S64x4, .f32⟩
  | 12 => ⟨S64x4, .f32⟩
  | 13 => ⟨S64x1, .f32⟩
  | 14 => ⟨S64, .f32⟩
  | 15 => ⟨S64x1, .f32⟩
  | 16 => ⟨S64, .f32⟩
  | 17 => ⟨S64x1, .f32⟩
  | 18 => ⟨S64, .f32⟩
  | 19 => ⟨S64x1, .f32⟩
  | 20 => ⟨S64, .f32⟩
  | 21 => ⟨S64, .f32⟩
  | 22 => ⟨S64, .f32⟩
  | 23 => ⟨S64, .f32⟩
  | 24 => ⟨S_, .f32⟩
  | 25 => ⟨S64, .f32⟩
  | 26 => ⟨S64, .f32⟩
  | 27 => ⟨S_, .f32⟩
  | 28 => ⟨S64, .f32⟩
  | 29 => ⟨S64, .f32⟩
  | 30 => ⟨S64, .f32⟩
  | 31 => ⟨S64, .f32⟩
  | 32 => ⟨S64, .f32⟩
  | 33 => ⟨S_, .f32⟩
  | 34 => ⟨S64, .f32⟩
  | 35 => ⟨S64, .f32⟩
  | 36 => ⟨S64, .f32⟩
  | 37 => ⟨S64, .f32⟩
  | 38 => ⟨S64, .f32⟩
  | 39 => ⟨S_, .f32⟩
  | 40 => ⟨S64, .f32⟩
  | 41 => ⟨S64, .f32⟩
  | 42 => ⟨S64, .f32⟩
  | 43 => ⟨S64, .f32⟩
  | 44 => ⟨S64, .f32⟩
  | 45 => ⟨S_, .f32⟩
  | 46 => ⟨S64, .f32⟩
  | 47 => ⟨S64, .f32⟩
  | 48 => ⟨S64, .f32⟩
  | 49 => ⟨S64, .f32⟩
  | 50 => ⟨S64, .f32⟩
  | 51 => ⟨S_, .f32⟩
  | 52 => ⟨S64, .f32⟩
  | 53 => ⟨S64, .f32⟩
  | 54 => ⟨S_, .f32⟩
  | 55 => ⟨S64, .f32⟩
  | 56 => ⟨S64, .f32⟩
  | 57 => ⟨S64, .f32⟩
  | 58 => ⟨S64, .f32⟩
  | 59 => ⟨S64, .f32⟩
  | 60 => ⟨S_, .f32⟩
  | 61 => ⟨S64, .f32⟩
  | 62 => ⟨S64, .f32⟩
  | 63 => ⟨S64, .f32⟩
  | 64 => ⟨S64, .f32⟩
  | 65 => ⟨S64, .f32⟩
  | 66 => ⟨S_, .f32⟩
  | 67 => ⟨S64, .f32⟩
  | 68 => ⟨S64, .f32⟩
  | 69 => ⟨S64, .f32⟩
  | 70 => ⟨S64, .f32⟩
  | 71 => ⟨S64, .f32⟩
  | 72 => ⟨S_, .f32⟩
  | 73 => ⟨S64, .f32⟩
  | 74 => ⟨S64, .f32⟩
  | 75 => ⟨S64, .f32⟩
  | 76 => ⟨S64, .f32⟩
  | 77 => ⟨S64, .f32⟩
  | 78 => ⟨S_, .f32⟩
  | 79 => ⟨S64, .f32⟩
  | 80 => ⟨S64, .f32⟩
  | 81 => ⟨S_, .f32⟩
  | 82 => ⟨S64, .f32⟩
  | 83 => ⟨S64, .f32⟩
  | 84 => ⟨S64x1, .f32⟩
  | 85 => ⟨S64x1, .f32⟩
  | 86 => ⟨S64x1, .f32⟩
  | 87 => ⟨S64x3, .f32⟩
  | 88 => ⟨S64x1, .f32⟩
  | 89 => ⟨S64x1, .f32⟩
  | 90 => ⟨S64x1, .f32⟩
  | 91 => ⟨S64x3, .f32⟩
  | 92 => ⟨S64x1, .f32⟩
  | 93 => ⟨S64x1, .f32⟩
  | 94 => ⟨S64x1, .f32⟩
  | 95 => ⟨S64x3, .f32⟩
  | 96 => ⟨S64x1x3, .f32⟩
  | 97 => ⟨S64x1x3, .f32⟩
  | 98 => ⟨S64x1x3, .f32⟩
  | 99 => ⟨S64x3x3, .f32⟩
  | 100 => ⟨S64x3000x3, .f32⟩
  | 101 => ⟨S64x1x3, .f32⟩
  | 102 => ⟨S64x3000x3, .f32⟩
  | 103 => ⟨S64x3000x3, .f32⟩
  | 104 => ⟨S64x3000x3, .f32⟩
  | 105 => ⟨S_, .f32⟩
  | 106 => ⟨S64x3000, .f32⟩
  | 107 => ⟨S64x3000x1, .f32⟩
  | 108 => ⟨S64x3000x3, .f32⟩
  | 109 => ⟨S_, .f32⟩
  | 110 => ⟨S64x3000, .f32⟩
  | 111 => ⟨S64x1x3000, .f32⟩
  | 112 => ⟨S64x3000x3000, .f32⟩
  | 113 => ⟨S64x3000x3000, .f32⟩
  | 114 => ⟨S64x3000x3000, .f32⟩
  | 115 => ⟨S64x3000x3000, .f32⟩
  | 116 => ⟨S_, .f32⟩
  | 117 => ⟨S64x3000x3000, .f32⟩
  | 118 => ⟨S64x3000x3000, .f32⟩
  | 119 => ⟨S64x3000x3000, .f32⟩
  | 120 => ⟨S64x3000x3000, .i32⟩
  | 121 => ⟨S_, .f32⟩
  | 122 => ⟨S_, .i32⟩
  | 123 => ⟨S64x3000, .f32⟩
  | 124 => ⟨S64x3000, .i32⟩
  | 125 => ⟨S_, .i32⟩
  | 126 => ⟨S64x3000, .i32⟩
  | 127 => ⟨S64x3000, .i1⟩
  | _ => ⟨S64x4, .f32⟩

abbrev hbmTy0_1 (i : Nat) : BufTy := match i % 128 with
  | 0 => ⟨S_, .i32⟩
  | 1 => ⟨S64x3000, .i32⟩
  | 2 => ⟨S64x3000, .i32⟩
  | 3 => ⟨S64x3000, .i32⟩
  | 4 => ⟨S64x3000x1, .i32⟩
  | 5 => ⟨S64x3000x3, .f32⟩
  | 6 => ⟨S64, .i32⟩
  | 7 => ⟨S64x1, .i32⟩
  | 8 => ⟨S1x5, .i32⟩
  | 9 => ⟨S64x5, .i32⟩
  | 10 => ⟨S64x5, .i32⟩
  | 11 => ⟨S64x5, .i1⟩
  | 12 => ⟨S_, .i1⟩
  | 13 => ⟨S64, .i1⟩
  | 14 => ⟨S64x1x1, .i1⟩
  | 15 => ⟨S64x3000x3, .i1⟩
  | 16 => ⟨S64x3000x3, .f32⟩
  | 17 => ⟨S64x3000x3, .f32⟩
  | 18 => ⟨S64x3000x3, .f32⟩
  | 19 => ⟨S_, .f32⟩
  | 20 => ⟨S64x3000, .f32⟩
  | 21 => ⟨S64x3000, .f32⟩
  | 22 => ⟨S_, .f32⟩
  | 23 => ⟨S64, .f32⟩
  | 24 => ⟨S_, .f32⟩
  | 25 => ⟨S64, .f32⟩
  | 26 => ⟨S64, .f32⟩
  | _ => ⟨S64x4, .f32⟩

abbrev hbmTy (i : Nat) : BufTy := match i / 128 with
  | 0 => hbmTy0_0 i
  | 1 => hbmTy0_1 i
  | _ => ⟨S64x4, .f32⟩

abbrev bufTy : (tb : Table) → Fin (tcTables nBuf tb) → BufTy
  | .hbm, ⟨i, _⟩ => hbmTy i
  | _, _ => ⟨S64x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_call0_cst : Ref sig .tc := ⟨.hbm, 7, rfl⟩
abbrev main_call0_v1 : Ref sig .tc := ⟨.hbm, 8, rfl⟩
abbrev main_call0_v2 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_cst_0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_3 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_4 : Ref sig .tc := ⟨.hbm, 51, rfl⟩
abbrev main_v36 : Ref sig .tc := ⟨.hbm, 52, rfl⟩
abbrev main_v37 : Ref sig .tc := ⟨.hbm, 53, rfl⟩
abbrev main_cst_5 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_6 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_7 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_8 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_9 : Ref sig .tc := ⟨.hbm, 78, rfl⟩
abbrev main_v58 : Ref sig .tc := ⟨.hbm, 79, rfl⟩
abbrev main_v59 : Ref sig .tc := ⟨.hbm, 80, rfl⟩
abbrev main_cst_10 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_cst_11 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_cst_12 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_cst_13 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_call1_v0 : Ref sig .tc := ⟨.hbm, 120, rfl⟩
abbrev main_call1_cst : Ref sig .tc := ⟨.hbm, 121, rfl⟩
abbrev main_call1_c : Ref sig .tc := ⟨.hbm, 122, rfl⟩
abbrev main_call1_v1_0 : Ref sig .tc := ⟨.hbm, 123, rfl⟩
abbrev main_v95 : Ref sig .tc := ⟨.hbm, 124, rfl⟩
abbrev main_c_14 : Ref sig .tc := ⟨.hbm, 125, rfl⟩
abbrev main_v96 : Ref sig .tc := ⟨.hbm, 126, rfl⟩
abbrev main_v97 : Ref sig .tc := ⟨.hbm, 127, rfl⟩
abbrev main_c_15 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_c_16 : Ref sig .tc := ⟨.hbm, 140, rfl⟩
abbrev main_v109 : Ref sig .tc := ⟨.hbm, 141, rfl⟩
abbrev main_v110 : Ref sig .tc := ⟨.hbm, 142, rfl⟩
abbrev main_call2_v0 : Ref sig .tc := ⟨.hbm, 143, rfl⟩
abbrev main_v111 : Ref sig .tc := ⟨.hbm, 144, rfl⟩
abbrev main_v112 : Ref sig .tc := ⟨.hbm, 145, rfl⟩
abbrev main_call3_v0 : Ref sig .tc := ⟨.hbm, 146, rfl⟩
abbrev main_call3_cst : Ref sig .tc := ⟨.hbm, 147, rfl⟩
abbrev main_call3_v1 : Ref sig .tc := ⟨.hbm, 148, rfl⟩
abbrev main_v113 : Ref sig .tc := ⟨.hbm, 149, rfl⟩
abbrev main_cst_17 : Ref sig .tc := ⟨.hbm, 150, rfl⟩
abbrev main_v114 : Ref sig .tc := ⟨.hbm, 151, rfl⟩
abbrev main_cst_18 : Ref sig .tc := ⟨.hbm, 152, rfl⟩
abbrev main_v115 : Ref sig .tc := ⟨.hbm, 153, rfl⟩
abbrev main_v116 : Ref sig .tc := ⟨.hbm, 154, rfl⟩

abbrev nD : Nat := 1
abbrev τ : Topo := Topo.v7x

variable {F : FTy → Type} [FloatOps F]
-- ==== Proof.KernelFrame.lean ====
/-
  THE FRAME OF THE KERNEL AS PRINTED, at any value instance: it ends, leaves its five arguments as they were and every
  counter at zero. Nothing is said of the block it writes, so the output window is a forgotten one.
-/
module

public import proofs.«01_k».proof.Proof.Gen.Kernel.Frame
public import proofs.«01_k».proof.Proof.Gen.Kernel.Skeleton
public import Idealize.ShloMosaic.Lib.Claim

@[expose] public section

noncomputable section

namespace Cert.Proof.KernelFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxRecDepth 65536 in
/-- The body runs to its end from the four input buffers whole and the output's buffer at anything. -/
theorem sound_kernel (c : Dev nD) (E : Set ℕ) (i : grid0.Coords) (arg1 : Memref sig .tc .smem S1x1x16 .f32) (harg1 : arg1.IsWhole)
    (arg2 : Memref sig .tc .vmem S1x3x3072 .f32) (harg2 : arg2.IsWhole) (arg3 : Memref sig .tc .vmem S1x3x3072 .f32) (harg3 : arg3.IsWhole)
    (arg4 : Memref sig .tc .vmem S1x3x24x128 .f32) (harg4 : arg4.IsWhole) (arg5 : Memref sig .tc .vmem S1x1x1 .f32) (harg5 : arg5.IsWhole)
    (x0 : Vec F S1x1x16 .f32) (x1 : Vec F S1x3x3072 .f32) (x2 : Vec F S1x3x3072 .f32) (x3 : Vec F S1x3x24x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ (∃ d, owns (c : Thread nD τ) arg5 fullShare d)) -∗ K ⟨⟩))
      ⊢ wp frame (wpE (defs₀ (F := F)) Variants.none c none) E (cc0__loss_kernel i arg1 harg1 arg2 harg2 arg3 harg3 arg4 harg4 arg5 harg5) K := by
  simp only [cc0__loss_kernel_eq_skeleton]; unfold cc0__loss_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _, _; isplitr
  swap; · iexact H4
  ipureintro; rfl

/-! ## The pipeline's proof data, the output forgotten -/

variable (m : (ℓ : Loc nD τ sig) → Buf (Elt F) ℓ) (ρ : Dev nD → PrngReg)

/-- The fifth window, the output. -/
def forgets0 : Fin 5 → Bool := fun w => w == 4

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => Pipeline.Dat.unnamed (cfg := cfg0) 4 t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare d))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ d, owns (c : Thread nD τ) (st0_4 t) fullShare d))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) :
    BodyObligation (dats m 0 c) (defs₀ (F := F)) Variants.none () Set.univ forgets0 := fun t => by
  rw [bigSep_W0, bigSep_W0, defs₀_row]
  exact triple_restated (sound_body m c t) rfl .rfl fun _ => .rfl

/-! ## The run and the frame -/

/-- The buffers the four host lines after the region write. -/
def tailOut : Finset (Ref sig .tc) := {main_v101, main_cst_15, main_v102, main_v103}

theorem tail_writes : ∀ ops ∈ ([hostOps1] : List (List (HloOp τ sig (Elt F)))), ∀ op ∈ ops, ∀ b : Ref sig .tc,
    Proc.devRef .tc b ∈ op.writes → b ∈ tailOut := by
  intro ops hops op hop b hb
  simp only [List.mem_singleton] at hops
  subst hops
  simp only [hostOps1, List.mem_cons, List.not_mem_nil, or_false] at hop
  rcases hop with rfl | rfl | rfl | rfl <;>
    · simp only [StableHlo.reshape_writes, StableHlo.nullary_writes, StableHlo.unary_writes, StableHlo.binary_writes, Finset.mem_singleton] at hb
      have := Proc.devRef_injective _ hb
      subst this
      decide

set_option backward.isDefEq.respectTransparency.types false in
/-- The whole program's run, saying nothing of the output window's array or of what is computed from it. -/
theorem run_main : θ_run defs (onTc (τ := τ) (main (F := F))) (s₀ m ρ)
    (fun r => Pipeline.RDat.FramePostR (cfgs 0) (fun c => (dats m 0 c).toRForget forgets0) tailOut
      (fun c b => V0 m c (Proc.devRef .tc b)) r ∧ r.2.sem = fun _ => 0) :=
  Pipeline.θ_run_frame_around_T_forget (Q' := _) cfgs (dats m) (0 : Fin 1) launch0 defs₀ Variants.none forgets0 tailOut m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hT := tail_writes) (hmain := hmain m Variants.none) (hA := A_eq m) (hΦ := fun _ _ => rfl)

/-- Each argument is no window's array and no host line after the region writes it. -/
theorem arg_rest : (main_arg0 ∈ Pipeline.restRefs sig spec0 \ tailOut ∧ main_arg1 ∈ Pipeline.restRefs sig spec0 \ tailOut)
    ∧ main_arg2 ∈ Pipeline.restRefs sig spec0 \ tailOut ∧ main_arg3 ∈ Pipeline.restRefs sig spec0 \ tailOut
    ∧ main_arg4 ∈ Pipeline.restRefs sig spec0 \ tailOut := by
  refine ⟨⟨?_, ?_⟩, ?_, ?_, ?_⟩ <;>
    exact Finset.mem_sdiff.mpr ⟨Pipeline.mem_restRefs_of _ (by decide) (by decide), by decide⟩

/-- The kernel's frame: it ends, the arguments are unchanged and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
    ⟨((h.1 c).2 main_arg0 arg_rest.1.1).trans (V_main_arg0 m c), ((h.1 c).2 main_arg1 arg_rest.1.2).trans (V_main_arg1 m c),
      ((h.1 c).2 main_arg2 arg_rest.2.1).trans (V_main_arg2 m c), ((h.1 c).2 main_arg3 arg_rest.2.2.1).trans (V_main_arg3 m c),
      ((h.1 c).2 main_arg4 arg_rest.2.2.2).trans (V_main_arg4 m c)⟩, h.2⟩) (run_main m ρ)

end Cert.Proof.KernelFrame

end
-- ==== Proof.Terms.lean ====
/-
  WHAT ONE BLOCK WRITES, as terms of the four staged blocks: the parameter row `x0` (rotation, translation, mask), the
  model points `x1` and the targets `x2` by coordinate rows, and the targets again `x3` by planes of 24 x 128.
  The kernel's printed text is cut into windows of sixty statements; these terms put the pieces together again, with the
  twenty-four unrolled minimum steps as one fold.
-/
module

public import proofs.«01_k».proof.Proof.Gen.KernelIdeal.Frame
public import proofs.«01_k».proof.Proof.Gen.KernelIdeal.Skeleton
public import Idealize.ShloMosaic.Lib.Claim

@[expose] public section

noncomputable section

namespace Cert.Proof.Block

open Cert.KernelIdeal Cert.KernelIdeal.Gen
open Idealize.ShloMosaic

variable {F : FTy → Type} [FloatOps F]

/-! ## The accesses -/

/-- The parameter at place `k` of the row of sixteen. -/
def par (x0 : Vec F S1x1x16 .f32) (k : ℕ) (h : ∀ a, (![0, 0, k] : Fin 3 → ℕ) a + S1x1x1.size a ≤ S1x1x16.size a) : Elt F .f32 :=
  View.ld x0 (Rect.unit (s := S1x1x16) ![0, 0, k] S1x1x1.size h) (Shape.Idx.first (numel1_S1x1x1.symm ▸ Nat.one_pos))

/-- Coordinate row `k` of a staged [1, 3, 3072] block. -/
abbrev row0 (x : Vec F S1x3x3072 .f32) : Vec F S1x1x3072 .f32 :=
  View.ld x (Rect.unit (s := S1x3x3072) ![0, 0, 0] S1x1x3072.size inb_S1x3x3072_S1x1x3072_0_0_0)
abbrev row1 (x : Vec F S1x3x3072 .f32) : Vec F S1x1x3072 .f32 :=
  View.ld x (Rect.unit (s := S1x3x3072) ![0, 1, 0] S1x1x3072.size inb_S1x3x3072_S1x1x3072_0_1_0)
abbrev row2 (x : Vec F S1x3x3072 .f32) : Vec F S1x1x3072 .f32 :=
  View.ld x (Rect.unit (s := S1x3x3072) ![0, 2, 0] S1x1x3072.size inb_S1x3x3072_S1x1x3072_0_2_0)

/-- Coordinate plane `k` of the staged [1, 3, 24, 128] block. -/
abbrev plane0 (x : Vec F S1x3x24x128 .f32) : Vec F S1x1x24x128 .f32 :=
  View.ld x (Rect.unit (s := S1x3x24x128) ![0, 0, 0, 0] S1x1x24x128.size inb_S1x3x24x128_S1x1x24x128_0_0_0_0)
abbrev plane1 (x : Vec F S1x3x24x128 .f32) : Vec F S1x1x24x128 .f32 :=
  View.ld x (Rect.unit (s := S1x3x24x128) ![0, 1, 0, 0] S1x1x24x128.size inb_S1x3x24x128_S1x1x24x128_0_1_0_0)
abbrev plane2 (x : Vec F S1x3x24x128 .f32) : Vec F S1x1x24x128 .f32 :=
  View.ld x (Rect.unit (s := S1x3x24x128) ![0, 2, 0, 0] S1x1x24x128.size inb_S1x3x24x128_S1x1x24x128_0_2_0_0)

/-! ## The transformed points -/

variable (x0 : Vec F S1x1x16 .f32) (x1 x2 : Vec F S1x3x3072 .f32) (x3 : Vec F S1x3x24x128 .f32)

/-- The first, second and third coordinates of the transformed model points. -/
def tx : FVec F S1x3072 .f32 :=
  k0_pay48 (row0 x1) (row1 x1) (row2 x1) (par x0 0 inb_S1x1x16_S1x1x1_0_0_0) (par x0 3 inb_S1x1x16_S1x1x1_0_0_3)
    (par x0 6 inb_S1x1x16_S1x1x1_0_0_6) (par x0 9 inb_S1x1x16_S1x1x1_0_0_9)
def ty : FVec F S1x3072 .f32 :=
  k0_pay1 (k0_pay47 (row2 x1)) (k0_pay49 (row0 x1) (par x0 1 inb_S1x1x16_S1x1x1_0_0_1)) (k0_pay50 (row1 x1) (par x0 4 inb_S1x1x16_S1x1x1_0_0_4))
    (par x0 7 inb_S1x1x16_S1x1x1_0_0_7) (par x0 10 inb_S1x1x16_S1x1x1_0_0_10)
def tz : FVec F S1x3072 .f32 :=
  k0_pay2 (k0_pay45 (row0 x1)) (k0_pay46 (row1 x1)) (k0_pay47 (row2 x1)) (par x0 2 inb_S1x1x16_S1x1x1_0_0_2)
    (par x0 5 inb_S1x1x16_S1x1x1_0_0_5) (par x0 8 inb_S1x1x16_S1x1x1_0_0_8) (par x0 11 inb_S1x1x16_S1x1x1_0_0_11)

/-! ## The branch without symmetry -/

/-- The sum of the distances to the targets in order. -/
def plainOut : FVec F S1x1x1 .f32 :=
  k0_pay4 k0_pay44 (k0_pay45 (row0 x1)) (k0_pay46 (row1 x1)) (k0_pay47 (row2 x1)) (tx x0 x1)
    (k0_pay49 (row0 x1) (par x0 1 inb_S1x1x16_S1x1x1_0_0_1)) (k0_pay50 (row1 x1) (par x0 4 inb_S1x1x16_S1x1x1_0_0_4))
    (par x0 7 inb_S1x1x16_S1x1x1_0_0_7) (par x0 10 inb_S1x1x16_S1x1x1_0_0_10) (par x0 2 inb_S1x1x16_S1x1x1_0_0_2)
    (par x0 5 inb_S1x1x16_S1x1x1_0_0_5) (par x0 8 inb_S1x1x16_S1x1x1_0_0_8) (par x0 11 inb_S1x1x16_S1x1x1_0_0_11)
    (row0 x2) (row1 x2) (row2 x2)

/-! ## The branch with symmetry -/

theorem slices24 (j : Fin 24) : S128x24.Slices ![0, j.val] S128x1 := by
  revert j; decide

/-- Step `j`: for each transformed point, the least over 128 targets (column `j` of the four planes) of
    `r2 - 2 <t, target>`. The planes `P Q R` hold the targets' coordinates and `N` their squared norms. -/
def stepOf (a b c : FVec F S1x3072 .f32) (P Q R N : FVec F S128x24 .f32) (j : Fin 24) : FVec F S1x3072 .f32 :=
  shapeCast S1x3072
    (multiReduction .minimumf [0] S3072
      (addf
        (addf (broadcastTo S128x3072 (extractStridedSlice S128x1 ![0, j.val] N (slices24 j)) broadcasts_S128x1_S128x3072)
          (mulf (broadcastTo S128x3072 (extractStridedSlice S128x1 ![0, j.val] P (slices24 j)) broadcasts_S128x1_S128x3072)
            (broadcastTo S128x3072 a broadcasts_S1x3072_S128x3072)))
        (addf
          (mulf (broadcastTo S128x3072 (extractStridedSlice S128x1 ![0, j.val] Q (slices24 j)) broadcasts_S128x1_S128x3072)
            (broadcastTo S128x3072 b broadcasts_S1x3072_S128x3072))
          (mulf (broadcastTo S128x3072 (extractStridedSlice S128x1 ![0, j.val] R (slices24 j)) broadcasts_S128x1_S128x3072)
            (broadcastTo S128x3072 c broadcasts_S1x3072_S128x3072))))
      0x7F800000#32 reduces_S128x3072_S3072 (.inl rfl) rfl)
    shapeCasts_S3072_S1x3072

/-- Step `j` on a block's contents. -/
def step (j : Fin 24) : FVec F S1x3072 .f32 :=
  stepOf (k0_pay5 (tx x0 x1)) (k0_pay6 (ty x0 x1)) (k0_pay7 (tz x0 x1)) (k0_pay8 (plane0 x3)) (k0_pay9 (plane1 x3)) (k0_pay10 (plane2 x3))
    (k0_pay11 (plane0 x3) (plane1 x3) (plane2 x3)) j

/-- The least over the steps in `l`, from plus infinity. -/
def least (l : List (Fin 24)) : FVec F S1x3072 .f32 :=
  l.foldl (fun a j => minimumf a (step x0 x1 x3 j)) (broadcast S1x3072 (Scalar.ofBits .f32 0x7F800000#32))

/-- The sum of the distances to the nearest targets, from the least over the first steps `u` and the last step's `v`. -/
def symOut : FVec F S1x1x1 .f32 :=
  k0_pay3 k0_pay44 (k0_pay45 (row0 x1)) (k0_pay46 (row1 x1)) (k0_pay47 (row2 x1)) (tx x0 x1)
    (k0_pay49 (row0 x1) (par x0 1 inb_S1x1x16_S1x1x1_0_0_1)) (k0_pay50 (row1 x1) (par x0 4 inb_S1x1x16_S1x1x1_0_0_4))
    (par x0 7 inb_S1x1x16_S1x1x1_0_0_7) (par x0 10 inb_S1x1x16_S1x1x1_0_0_10) (par x0 2 inb_S1x1x16_S1x1x1_0_0_2)
    (par x0 5 inb_S1x1x16_S1x1x1_0_0_5) (par x0 8 inb_S1x1x16_S1x1x1_0_0_8) (par x0 11 inb_S1x1x16_S1x1x1_0_0_11)
    (least x0 x1 x3 [0, 1, 2, 3, 4, 5, 6, 7, 8, 9, 10, 11, 12, 13, 14, 15, 16, 17, 18, 19, 20, 21, 22]) (step x0 x1 x3 23)

/-- What the block's one word of output holds: the branch is chosen by the parameter at place 12. -/
def out : FVec F S1x1x1 .f32 :=
  if Scalar.cmpi .ne (Scalar.extui (Scalar.cmpf .ole (par x0 12 inb_S1x1x16_S1x1x1_0_0_12) (Scalar.ofBits .f32 0x3F000000#32)) : BitVec 32) 0#32 = 1#1
  then plainOut x0 x1 x2 else symOut x0 x1 x3

end Cert.Proof.Block

end
-- ==== Proof.IdealBody.lean ====
module

public import proofs.«01_k».proof.Proof.Terms
public import Idealize.ShloMosaic.Lib.Claim
public import Idealize.ShloMosaic.PureOps.Ideal

@[expose] public section

noncomputable section

namespace Cert.Proof.IdealBody

open Cert.KernelIdeal Cert.KernelIdeal.Gen Cert.Proof.Block
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev rOut : Rect S1x1x1 := Rect.unit (s := S1x1x1) ![0, 0, 0] S1x1x1.size inb_S1x1x1_S1x1x1_0_0_0

theorem cover (p : Vec F S1x1x1 .f32) (y : S1x1x1.Idx) : ∃ pc ∈ ([⟨rOut, p⟩] : List (View.Piece (Elt F) S1x1x1 .f32)), y ∈ pc.1.set :=
  View.cover_of_tiled [⟨rOut, p⟩] S1x1x1.size (by rfl) y

/-- The mask parameter as the kernel's two branches read it. -/
abbrev isSym (x0 : Vec F S1x1x16 .f32) : Prop :=
  Scalar.cmpi .ne (Scalar.extui (Scalar.cmpf .ogt (par x0 12 inb_S1x1x16_S1x1x1_0_0_12) (Scalar.ofBits .f32 0x3F000000#32)) : BitVec 32) 0#32 = 1#1
abbrev isPlain (x0 : Vec F S1x1x16 .f32) : Prop :=
  Scalar.cmpi .ne (Scalar.extui (Scalar.cmpf .ole (par x0 12 inb_S1x1x16_S1x1x1_0_0_12) (Scalar.ofBits .f32 0x3F000000#32)) : BitVec 32) 0#32 = 1#1

set_option maxRecDepth 65536 in
theorem sound_kernel (c : Dev nD) (E : Set ℕ) (i : grid0.Coords) (arg1 : Memref sig .tc .smem S1x1x16 .f32) (harg1 : arg1.IsWhole)
    (arg2 : Memref sig .tc .vmem S1x3x3072 .f32) (harg2 : arg2.IsWhole) (arg3 : Memref sig .tc .vmem S1x3x3072 .f32) (harg3 : arg3.IsWhole)
    (arg4 : Memref sig .tc .vmem S1x3x24x128 .f32) (harg4 : arg4.IsWhole) (arg5 : Memref sig .tc .vmem S1x1x1 .f32) (harg5 : arg5.IsWhole)
    (x0 : Vec F S1x1x16 .f32) (x1 : Vec F S1x3x3072 .f32) (x2 : Vec F S1x3x3072 .f32) (x3 : Vec F S1x3x24x128 .f32)
    (hdec : ¬ isPlain x0 → isSym x0) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (View.canon [⟨rOut, out x0 x1 x2 x3⟩])) -∗ K ⟨⟩))
      ⊢ wp frame (wpE (defs₀ (F := F)) Variants.none c none) E (cc0__loss_kernel i arg1 harg1 arg2 harg2 arg3 harg3 arg4 harg4 arg5 harg5) K := by
  simp only [cc0__loss_kernel_eq_skeleton]; unfold cc0__loss_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  split
  · next h =>
    rw [out, if_pos (show isPlain _ from h)]
    exact View.read_writes_eq_canon _ _ _ (cover _)
  · next h =>
    rw [out, if_neg (show ¬ isPlain _ from h)]
    split
    · exact View.read_writes_eq_canon _ _ _ (cover _)
    · next h' => exact absurd (hdec h) h'

/-! ## At the extended reals one of the two branches is always taken -/

theorem isSym_of_not_isPlain (x0 : Vec Ideal S1x1x16 .f32) (h : ¬ isPlain x0) : isSym x0 := by
  unfold isPlain at h
  unfold isSym
  generalize par x0 12 inb_S1x1x16_S1x1x1_0_0_12 = a at *
  generalize (Scalar.ofBits .f32 0x3F000000#32 : Ideal .f32) = b at *
  have hab : ¬ (a : EReal) ≤ b := by
    intro hab; apply h
    have : Scalar.cmpf .ole a b = 1#1 := by simp [Ideal.scalar_cmpf_def, Ideal.cmp, hab]
    rw [this]; decide
  have : Scalar.cmpf .ogt a b = 1#1 := by simp [Ideal.scalar_cmpf_def, Ideal.cmp, not_le.mp hab]
  rw [this]; decide

/-! ## The pipeline's proof data -/

local notation "𝕄'" => MT nD τ sig Unit (Elt Ideal) ℕ (UR sig nD τ) ℕ

variable (m : (ℓ : Loc nD τ sig) → Buf (Elt Ideal) ℓ) (ρ : Dev nD → PrngReg)

/-- What the output window's buffer holds after point `t`. -/
def outAt (c : Dev nD) (t : Fin cfg0.N) : Vec Ideal S1x1x1 .f32 :=
  View.canon [⟨rOut, out (iblk m c 0 t) (iblk m c 1 t) (iblk m c 2 t) (iblk m c 3 t)⟩]

/-- The arrays as the region finds them, each input's buffer at its block, the output's at `outAt`. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

def bodyPre (c : Dev nD) (t : Fin cfg0.N) : sProp 𝕄' :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄' :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, outAt]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk m c 0 t) (iblk m c 1 t) (iblk m c 2 t) (iblk m c 3 t)
    (isSym_of_not_isPlain _) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-! ## The run and the frame -/

set_option backward.isDefEq.respectTransparency.types false in
/-- The whole program's run: the host lines, the pipeline, the host lines after it. Every array of the pipeline ends at
    what the proof data says, every other buffer at what the last host lines leave, and every counter at zero. -/
theorem run_main_quiescent : θ_run defs (onTc (τ := τ) (main (F := Ideal))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := Ideal))) (s₀ m ρ)
    (Pipeline.FramePost cfgs (dats m) 0 (Pipeline.afterTail₀ cfgs (dats m) 0 (V0 m) [hostOps1])) :=
  (θ_run defs _ _).mono (fun _ h => h.1) (run_main_quiescent m ρ)

/-- The kernel's frame at the extended reals: it ends, the arguments are unchanged and every counter is zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.Proof.IdealBody

end
-- ==== Proof.RefRun.lean ====
/-
  THE REFERENCE'S RUN: its host lines as lists cut at the steps of the mathematics, what each list writes, and the run
  itself: it ends, every buffer at what the lists leave, the arguments unchanged and every counter at zero.
-/
module

public import proofs.«01_k».proof.Proof.Gen.ReferenceIdeal
public import Idealize.ShloMosaic.Lib.StableHlo.Run
public import Idealize.ShloMosaic.Lib.Pipeline.Frame

@[expose] public section

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

/-- The contents of a buffer of floats, of 32-bit integers, of bits. -/
abbrev Fb (F : FTy → Type) (S : Shape) := (⟨S, .f32⟩ : BufTy).Contents (Elt F)
abbrev Ib (F : FTy → Type) (S : Shape) := (⟨S, .i32⟩ : BufTy).Contents (Elt F)
abbrev Bb (F : FTy → Type) (S : Shape) := (⟨S, .i1⟩ : BufTy).Contents (Elt F)

/-- Three columns side by side. -/
def row3 (a b c : Fb F S64x1) : Fb F S64x3 :=
  concatenate S64x3 1 [⟨S64x1, a⟩, ⟨S64x1, b⟩, ⟨S64x1, c⟩] concatenates_S64x1_S64x1_S64x1_S64x3_d1

/-- Three rows, one under the other. -/
def rows3 (a b c : Fb F S64x1x3) : Fb F S64x3x3 :=
  concatenate S64x3x3 1 [⟨S64x1x3, a⟩, ⟨S64x1x3, b⟩, ⟨S64x1x3, c⟩] concatenates_S64x1x3_S64x1x3_S64x1x3_S64x3x3_d1

/-- Host lines: the quaternion over its norm and its four coordinates. -/
abbrev opsQ : List (HloOp τ sig (Elt F)) :=
  [ nullary main_c (fun i => lit0 (S5.rowMajor i)),
    TRef.binary (TRef.of (T := ⟨S64x4, .f32⟩) main_arg0) (TRef.of (T := ⟨S64x4, .f32⟩) main_arg0) (TRef.of (T := ⟨S64x4, .f32⟩) main_call0_v0) mulf,
    TRef.nullary (TRef.of (T := ⟨S_, .f32⟩) main_call0_cst) (constant S_ .f32 0x00000000#32),
    TRef.binary (TRef.of (T := ⟨S64x4, .f32⟩) main_call0_v0) (TRef.of (T := ⟨S_, .f32⟩) main_call0_cst) (TRef.of (T := ⟨S64, .f32⟩) main_call0_v1) (fun x v => Host.reduceAdd x v reducesTo_S64x4_S64_d1 h_S_),
    TRef.unary (TRef.of (T := ⟨S64, .f32⟩) main_call0_v1) (TRef.of (T := ⟨S64x1, .f32⟩) main_call0_v2) (broadcastInDim S64x1 ![0] bcast_S64_S64x1_0),
    TRef.unary (TRef.of (T := ⟨S64x1, .f32⟩) main_call0_v2) (TRef.of (T := ⟨S64x1, .f32⟩) main_v0) Host.sqrt,
    unary main_v0 main_v1 (broadcastInDim S64x4 ![0, 1] bcast_S64x1_S64x4_0_1 : Fb F S64x1 → Fb F S64x4),
    binary main_arg0 main_v1 main_v2 (Host.divf : Fb F S64x4 → Fb F S64x4 → Fb F S64x4),
    unary main_v2 main_v3 ((extractStridedSlice S64x1 ![0, 0] · slices_S64x4_S64x1_0_0) : Fb F S64x4 → Fb F S64x1),
    reshape main_v3 main_v4 (rfl : (.f32 : EltTy) = .f32) shapeCasts_S64x1_S64,
    unary main_v2 main_v5 ((extractStridedSlice S64x1 ![0, 1] · slices_S64x4_S64x1_0_1) : Fb F S64x4 → Fb F S64x1),
    reshape main_v5 main_v6 (rfl : (.f32 : EltTy) = .f32) shapeCasts_S64x1_S64,
    unary main_v2 main_v7 ((extractStridedSlice S64x1 ![0, 2] · slices_S64x4_S64x1_0_2) : Fb F S64x4 → Fb F S64x1),
    reshape main_v7 main_v8 (rfl : (.f32 : EltTy) = .f32) shapeCasts_S64x1_S64,
    unary main_v2 main_v9 ((extractStridedSlice S64x1 ![0, 3] · slices_S64x4_S64x1_0_3) : Fb F S64x4 → Fb F S64x1),
    reshape main_v9 main_v10 (rfl : (.f32 : EltTy) = .f32) shapeCasts_S64x1_S64 ]

/-- What they write. -/
abbrev opsQ_W : List (Ref sig .tc) := [main_c, main_call0_v0, main_call0_cst, main_call0_v1, main_call0_v2, main_v0, main_v1, main_v2, main_v3, main_v4, main_v5, main_v6, main_v7, main_v8, main_v9, main_v10]

/-- Host lines: the rotation entries up to the seventh. -/
abbrev opsR0 : List (HloOp τ sig (Elt F)) :=
  [ binary main_v8 main_v8 main_v11 (mulf : Fb F S64 → Fb F S64 → Fb F S64),
    binary main_v10 main_v10 main_v12 (mulf : Fb F S64 → Fb F S64 → Fb F S64),
    binary main_v11 main_v12 main_v13 (addf : Fb F S64 → Fb F S64 → Fb F S64),
    nullary main_cst (constant S_ .f32 0x40000000#32),
    unary main_cst main_v14 (broadcastInDim S64 ![] bcast_S_S64 : Fb F S_ → Fb F S64),
    binary main_v14 main_v13 main_v15 (mulf : Fb F S64 → Fb F S64 → Fb F S64),
    nullary main_cst_0 (constant S_ .f32 0x3F800000#32),
    unary main_cst_0 main_v16 (broadcastInDim S64 ![] bcast_S_S64 : Fb F S_ → Fb F S64),
    binary main_v16 main_v15 main_v17 (subf : Fb F S64 → Fb F S64 → Fb F S64),
    binary main_v6 main_v8 main_v18 (mulf : Fb F S64 → Fb F S64 → Fb F S64),
    binary main_v4 main_v10 main_v19 (mulf : Fb F S64 → Fb F S64 → Fb F S64),
    binary main_v18 main_v19 main_v20 (subf : Fb F S64 → Fb F S64 → Fb F S64),
    nullary main_cst_1 (constant S_ .f32 0x40000000#32),
    unary main_cst_1 main_v21 (broadcastInDim S64 ![] bcast_S_S64 : Fb F S_ → Fb F S64),
    binary main_v21 main_v20 main_v22 (mulf : Fb F S64 → Fb F S64 → Fb F S64),
    binary main_v6 main_v10 main_v23 (mulf : Fb F S64 → Fb F S64 → Fb F S64),
    binary main_v4 main_v8 main_v24 (mulf : Fb F S64 → Fb F S64 → Fb F S64),
    binary main_v23 main_v24 main_v25 (addf : Fb F S64 → Fb F S64 → Fb F S64),
    nullary main_cst_2 (constant S_ .f32 0x40000000#32),
    unary main_cst_2 main_v26 (broadcastInDim S64 ![] bcast_S_S64 : Fb F S_ → Fb F S64),
    binary main_v26 main_v25 main_v27 (mulf : Fb F S64 → Fb F S64 → Fb F S64),
    binary main_v6 main_v8 main_v28 (mulf : Fb F S64 → Fb F S64 → Fb F S64),
    binary main_v4 main_v10 main_v29 (mulf : Fb F S64 → Fb F S64 → Fb F S64),
    binary main_v28 main_v29 main_v30 (addf : Fb F S64 → Fb F S64 → Fb F S64),
    nullary main_cst_3 (constant S_ .f32 0x40000000#32),
    unary main_cst_3 main_v31 (broadcastInDim S64 ![] bcast_S_S64 : Fb F S_ → Fb F S64),
    binary main_v31 main_v30 main_v32 (mulf : Fb F S64 → Fb F S64 → Fb F S64),
    binary main_v6 main_v6 main_v33 (mulf : Fb F S64 → Fb F S64 → Fb F S64),
    binary main_v10 main_v10 main_v34 (mulf : Fb F S64 → Fb F S64 → Fb F S64),
    binary main_v33 main_v34 main_v35 (addf : Fb F S64 → Fb F S64 → Fb F S64),
    nullary main_cst_4 (constant S_ .f32 0x40000000#32),
    unary main_cst_4 main_v36 (broadcastInDim S64 ![] bcast_S_S64 : Fb F S_ → Fb F S64),
    binary main_v36 main_v35 main_v37 (mulf : Fb F S64 → Fb F S64 → Fb F S64),
    nullary main_cst_5 (constant S_ .f32 0x3F800000#32),
    unary main_cst_5 main_v38 (broadcastInDim S64 ![] bcast_S_S64 : Fb F S_ → Fb F S64),
    binary main_v38 main_v37 main_v39 (subf : Fb F S64 → Fb F S64 → Fb F S64),
    binary main_v8 main_v10 main_v40 (mulf : Fb F S64 → Fb F S64 → Fb F S64),
    binary main_v4 main_v6 main_v41 (mulf : Fb F S64 → Fb F S64 → Fb F S64),
    binary main_v40 main_v41 main_v42 (subf : Fb F S64 → Fb F S64 → Fb F S64),
    nullary main_cst_6 (constant S_ .f32 0x40000000#32),
    unary main_cst_6 main_v43 (broadcastInDim S64 ![] bcast_S_S64 : Fb F S_ → Fb F S64),
    binary main_v43 main_v42 main_v44 (mulf : Fb F S64 → Fb F S64 → Fb F S64),
    binary main_v6 main_v10 main_v45 (mulf : Fb F S64 → Fb F S64 → Fb F S64),
    binary main_v4 main_v8 main_v46 (mulf : Fb F S64 → Fb F S64 → Fb F S64),
    binary main_v45 main_v46 main_v47 (subf : Fb F S64 → Fb F S64 → Fb F S64),
    nullary main_cst_7 (constant S_ .f32 0x40000000#32),
    unary main_cst_7 main_v48 (broadcastInDim S64 ![] bcast_S_S64 : Fb F S_ → Fb F S64),
    binary main_v48 main_v47 main_v49 (mulf : Fb F S64 → Fb F S64 → Fb F S64) ]

/-- What they write. -/
abbrev opsR0_W : List (Ref sig .tc) := [main_v11, main_v12, main_v13, main_cst, main_v14, main_v15, main_cst_0, main_v16, main_v17, main_v18, main_v19, main_v20, main_cst_1, main_v21, main_v22, main_v23, main_v24, main_v25, main_cst_2, main_v26, main_v27, main_v28, main_v29, main_v30, main_cst_3, main_v31, main_v32, main_v33, main_v34, main_v35, main_cst_4, main_v36, main_v37, main_cst_5, main_v38, main_v39, main_v40, main_v41, main_v42, main_cst_6, main_v43, main_v44, main_v45, main_v46, main_v47, main_cst_7, main_v48, main_v49]

/-- Host lines: the last rotation entries and the matrix put together. -/
abbrev opsR1 : List (HloOp τ sig (Elt F)) :=
  [ binary main_v8 main_v10 main_v50 (mulf : Fb F S64 → Fb F S64 → Fb F S64),
    binary main_v4 main_v6 main_v51 (mulf : Fb F S64 → Fb F S64 → Fb F S64),
    binary main_v50 main_v51 main_v52 (addf : Fb F S64 → Fb F S64 → Fb F S64),
    nullary main_cst_8 (constant S_ .f32 0x40000000#32),
    unary main_cst_8 main_v53 (broadcastInDim S64 ![] bcast_S_S64 : Fb F S_ → Fb F S64),
    binary main_v53 main_v52 main_v54 (mulf : Fb F S64 → Fb F S64 → Fb F S64),
    binary main_v6 main_v6 main_v55 (mulf : Fb F S64 → Fb F S64 → Fb F S64),
    binary main_v8 main_v8 main_v56 (mulf : Fb F S64 → Fb F S64 → Fb F S64),
    binary main_v55 main_v56 main_v57 (addf : Fb F S64 → Fb F S64 → Fb F S64),
    nullary main_cst_9 (constant S_ .f32 0x40000000#32),
    unary main_cst_9 main_v58 (broadcastInDim S64 ![] bcast_S_S64 : Fb F S_ → Fb F S64),
    binary main_v58 main_v57 main_v59 (mulf : Fb F S64 → Fb F S64 → Fb F S64),
    nullary main_cst_10 (constant S_ .f32 0x3F800000#32),
    unary main_cst_10 main_v60 (broadcastInDim S64 ![] bcast_S_S64 : Fb F S_ → Fb F S64),
    binary main_v60 main_v59 main_v61 (subf : Fb F S64 → Fb F S64 → Fb F S64),
    unary main_v17 main_v62 (broadcastInDim S64x1 ![0] bcast_S64_S64x1_0 : Fb F S64 → Fb F S64x1),
    unary main_v22 main_v63 (broadcastInDim S64x1 ![0] bcast_S64_S64x1_0 : Fb F S64 → Fb F S64x1),
    unary main_v27 main_v64 (broadcastInDim S64x1 ![0] bcast_S64_S64x1_0 : Fb F S64 → Fb F S64x1),
    nary ![main_v62, main_v63, main_v64] main_v65 (fun u => row3 (F := F) (u 0) (u 1) (u 2)),
    unary main_v32 main_v66 (broadcastInDim S64x1 ![0] bcast_S64_S64x1_0 : Fb F S64 → Fb F S64x1),
    unary main_v39 main_v67 (broadcastInDim S64x1 ![0] bcast_S64_S64x1_0 : Fb F S64 → Fb F S64x1),
    unary main_v44 main_v68 (broadcastInDim S64x1 ![0] bcast_S64_S64x1_0 : Fb F S64 → Fb F S64x1),
    nary ![main_v66, main_v67, main_v68] main_v69 (fun u => row3 (F := F) (u 0) (u 1) (u 2)),
    unary main_v49 main_v70 (broadcastInDim S64x1 ![0] bcast_S64_S64x1_0 : Fb F S64 → Fb F S64x1),
    unary main_v54 main_v71 (broadcastInDim S64x1 ![0] bcast_S64_S64x1_0 : Fb F S64 → Fb F S64x1),
    unary main_v61 main_v72 (broadcastInDim S64x1 ![0] bcast_S64_S64x1_0 : Fb F S64 → Fb F S64x1),
    nary ![main_v70, main_v71, main_v72] main_v73 (fun u => row3 (F := F) (u 0) (u 1) (u 2)),
    unary main_v65 main_v74 (broadcastInDim S64x1x3 ![0, 2] bcast_S64x3_S64x1x3_0_2 : Fb F S64x3 → Fb F S64x1x3),
    unary main_v69 main_v75 (broadcastInDim S64x1x3 ![0, 2] bcast_S64x3_S64x1x3_0_2 : Fb F S64x3 → Fb F S64x1x3),
    unary main_v73 main_v76 (broadcastInDim S64x1x3 ![0, 2] bcast_S64x3_S64x1x3_0_2 : Fb F S64x3 → Fb F S64x1x3),
    nary ![main_v74, main_v75, main_v76] main_v77 (fun u => rows3 (F := F) (u 0) (u 1) (u 2)) ]

/-- What they write. -/
abbrev opsR1_W : List (Ref sig .tc) := [main_v50, main_v51, main_v52, main_cst_8, main_v53, main_v54, main_v55, main_v56, main_v57, main_cst_9, main_v58, main_v59, main_cst_10, main_v60, main_v61, main_v62, main_v63, main_v64, main_v65, main_v66, main_v67, main_v68, main_v69, main_v70, main_v71, main_v72, main_v73, main_v74, main_v75, main_v76, main_v77]

/-- Host lines: the transformed points. -/
abbrev opsT : List (HloOp τ sig (Elt F)) :=
  [ binary main_arg3 main_v77 main_v78 ((fun l r => Host.dotGeneral dot_S64x3000x3_S64x3x3_S64x3000x3_2_1_1_2_0_0 none l r) : Fb F S64x3000x3 → Fb F S64x3x3 → Fb F S64x3000x3),
    unary main_arg1 main_v79 (broadcastInDim S64x1x3 ![0, 2] bcast_S64x3_S64x1x3_0_2 : Fb F S64x3 → Fb F S64x1x3),
    unary main_v79 main_v80 (broadcastInDim S64x3000x3 ![0, 1, 2] bcast_S64x1x3_S64x3000x3_0_1_2 : Fb F S64x1x3 → Fb F S64x3000x3),
    binary main_v78 main_v80 main_v81 (addf : Fb F S64x3000x3 → Fb F S64x3000x3 → Fb F S64x3000x3) ]

/-- What they write. -/
abbrev opsT_W : List (Ref sig .tc) := [main_v78, main_v79, main_v80, main_v81]

/-- Host lines: the squared distances. -/
abbrev opsD : List (HloOp τ sig (Elt F)) :=
  [ binary main_v81 main_v81 main_v82 (mulf : Fb F S64x3000x3 → Fb F S64x3000x3 → Fb F S64x3000x3),
    nullary main_cst_11 (constant S_ .f32 0x00000000#32),
    binary main_v82 main_cst_11 main_v83 ((fun x v => Host.reduceAdd x v reducesTo_S64x3000x3_S64x3000_d2 h_S_) : Fb F S64x3000x3 → Fb F S_ → Fb F S64x3000),
    unary main_v83 main_v84 (broadcastInDim S64x3000x1 ![0, 1] bcast_S64x3000_S64x3000x1_0_1 : Fb F S64x3000 → Fb F S64x3000x1),
    binary main_arg2 main_arg2 main_v85 (mulf : Fb F S64x3000x3 → Fb F S64x3000x3 → Fb F S64x3000x3),
    nullary main_cst_12 (constant S_ .f32 0x00000000#32),
    binary main_v85 main_cst_12 main_v86 ((fun x v => Host.reduceAdd x v reducesTo_S64x3000x3_S64x3000_d2 h_S_) : Fb F S64x3000x3 → Fb F S_ → Fb F S64x3000),
    unary main_v86 main_v87 (broadcastInDim S64x1x3000 ![0, 2] bcast_S64x3000_S64x1x3000_0_2 : Fb F S64x3000 → Fb F S64x1x3000),
    unary main_v84 main_v88 (broadcastInDim S64x3000x3000 ![0, 1, 2] bcast_S64x3000x1_S64x3000x3000_0_1_2 : Fb F S64x3000x1 → Fb F S64x3000x3000),
    unary main_v87 main_v89 (broadcastInDim S64x3000x3000 ![0, 1, 2] bcast_S64x1x3000_S64x3000x3000_0_1_2 : Fb F S64x1x3000 → Fb F S64x3000x3000),
    binary main_v88 main_v89 main_v90 (addf : Fb F S64x3000x3000 → Fb F S64x3000x3000 → Fb F S64x3000x3000),
    binary main_v81 main_arg2 main_v91 ((fun l r => Host.dotGeneral dot_S64x3000x3_S64x3000x3_S64x3000x3000_2_2_1_1_0_0 none l r) : Fb F S64x3000x3 → Fb F S64x3000x3 → Fb F S64x3000x3000),
    nullary main_cst_13 (constant S_ .f32 0x40000000#32),
    unary main_cst_13 main_v92 (broadcastInDim S64x3000x3000 ![] bcast_S_S64x3000x3000 : Fb F S_ → Fb F S64x3000x3000),
    binary main_v92 main_v91 main_v93 (mulf : Fb F S64x3000x3000 → Fb F S64x3000x3000 → Fb F S64x3000x3000),
    binary main_v90 main_v93 main_v94 (subf : Fb F S64x3000x3000 → Fb F S64x3000x3000 → Fb F S64x3000x3000) ]

/-- What they write. -/
abbrev opsD_W : List (Ref sig .tc) := [main_v82, main_cst_11, main_v83, main_v84, main_v85, main_cst_12, main_v86, main_v87, main_v88, main_v89, main_v90, main_v91, main_cst_13, main_v92, main_v93, main_v94]

/-- Host lines: the nearest target of each point. -/
abbrev opsA : List (HloOp τ sig (Elt F)) :=
  [ TRef.nullary (TRef.of (T := ⟨S64x3000x3000, .i32⟩) main_call1_v0) (iotaInDim S64x3000x3000 32 2),
    TRef.nullary (TRef.of (T := ⟨S_, .f32⟩) main_call1_cst) (constant S_ .f32 0x7F800000#32),
    TRef.nullary (TRef.of (T := ⟨S_, .i32⟩) main_call1_c) (constantI S_ 32 0#32),
    TRef.quaternary (TRef.of (T := ⟨S64x3000x3000, .f32⟩) main_v94) (TRef.of (T := ⟨S64x3000x3000, .i32⟩) main_call1_v0) (TRef.of (T := ⟨S_, .f32⟩) main_call1_cst) (TRef.of (T := ⟨S_, .i32⟩) main_call1_c) (TRef.of (T := ⟨S64x3000, .f32⟩) main_call1_v1_0) (fun x y u v j => (Host.argReduce reducer_argmin_f32_i32 x y u v reducesTo_S64x3000x3000_S64x3000_d2 h_S_ j).1),
    TRef.quaternary (TRef.of (T := ⟨S64x3000x3000, .f32⟩) main_v94) (TRef.of (T := ⟨S64x3000x3000, .i32⟩) main_call1_v0) (TRef.of (T := ⟨S_, .f32⟩) main_call1_cst) (TRef.of (T := ⟨S_, .i32⟩) main_call1_c) (TRef.of (T := ⟨S64x3000, .i32⟩) main_v95) (fun x y u v j => (Host.argReduce reducer_argmin_f32_i32 x y u v reducesTo_S64x3000x3000_S64x3000_d2 h_S_ j).2) ]

/-- What they write. -/
abbrev opsA_W : List (Ref sig .tc) := [main_call1_v0, main_call1_cst, main_call1_c, main_call1_v1_0, main_v95]

/-- Host lines: its index, as the gather takes it. -/
abbrev opsI : List (HloOp τ sig (Elt F)) :=
  [ nullary main_c_14 (constantI S_ 32 0#32),
    unary main_c_14 main_v96 (broadcastInDim S64x3000 ![] bcast_S_S64x3000 : Ib F S_ → Ib F S64x3000),
    binary main_v95 main_v96 main_v97 (cmpi .slt : Ib F S64x3000 → Ib F S64x3000 → Bb F S64x3000),
    nullary main_c_15 (constantI S_ 32 3000#32),
    unary main_c_15 main_v98 (broadcastInDim S64x3000 ![] bcast_S_S64x3000 : Ib F S_ → Ib F S64x3000),
    binary main_v95 main_v98 main_v99 (addi : Ib F S64x3000 → Ib F S64x3000 → Ib F S64x3000),
    ternary main_v97 main_v99 main_v95 main_v100 (select : Bb F S64x3000 → Ib F S64x3000 → Ib F S64x3000 → Ib F S64x3000),
    unary main_v100 main_v101 (broadcastInDim S64x3000x1 ![0, 1] bcast_S64x3000_S64x3000x1_0_1 : Ib F S64x3000 → Ib F S64x3000x1) ]

/-- What they write. -/
abbrev opsI_W : List (Ref sig .tc) := [main_c_14, main_v96, main_v97, main_c_15, main_v98, main_v99, main_v100, main_v101]

/-- Host lines: the gather. -/
abbrev opsG : List (HloOp τ sig (Elt F)) :=
  [ binary main_arg2 main_v101 main_v102 ((fun x i => Host.gather gather_S64x3000x3_S64x3000x1_S64x3000x3_2_1_0_0_1_2_113 x i) : Fb F S64x3000x3 → Ib F S64x3000x1 → Fb F S64x3000x3) ]

/-- What they write. -/
abbrev opsG_W : List (Ref sig .tc) := [main_v102]

/-- Host lines: whether the object is symmetric. -/
abbrev opsM : List (HloOp τ sig (Elt F)) :=
  [ reshape main_arg4 main_v103 (rfl : (.i32 : EltTy) = .i32) shapeCasts_S64x1_S64,
    unary main_v103 main_v104 (broadcastInDim S64x1 ![0] bcast_S64_S64x1_0 : Ib F S64 → Ib F S64x1),
    unary main_c main_v105 (broadcastInDim S1x5 ![1] bcast_S5_S1x5_1 : Ib F S5 → Ib F S1x5),
    unary main_v104 main_v106 (broadcastInDim S64x5 ![0, 1] bcast_S64x1_S64x5_0_1 : Ib F S64x1 → Ib F S64x5),
    unary main_v105 main_v107 (broadcastInDim S64x5 ![0, 1] bcast_S1x5_S64x5_0_1 : Ib F S1x5 → Ib F S64x5),
    binary main_v106 main_v107 main_v108 (cmpi .eq : Ib F S64x5 → Ib F S64x5 → Bb F S64x5),
    nullary main_c_16 (constantI S_ 1 0#1),
    binary main_v108 main_c_16 main_v109 ((fun x v => Host.reduce IntOp.ori x v reducesTo_S64x5_S64_d1 h_S_) : Bb F S64x5 → Bb F S_ → Bb F S64),
    unary main_v109 main_v110 (broadcastInDim S64x1x1 ![0] bcast_S64_S64x1x1_0 : Bb F S64 → Bb F S64x1x1) ]

/-- What they write. -/
abbrev opsM_W : List (Ref sig .tc) := [main_v103, main_v104, main_v105, main_v106, main_v107, main_v108, main_c_16, main_v109, main_v110]

/-- Host lines: the loss. -/
abbrev opsL : List (HloOp τ sig (Elt F)) :=
  [ TRef.unary (TRef.of (T := ⟨S64x1x1, .i1⟩) main_v110) (TRef.of (T := ⟨S64x3000x3, .i1⟩) main_call2_v0) (broadcastInDim S64x3000x3 ![0, 1, 2] bcast_S64x1x1_S64x3000x3_0_1_2),
    TRef.ternary (TRef.of (T := ⟨S64x3000x3, .i1⟩) main_call2_v0) (TRef.of (T := ⟨S64x3000x3, .f32⟩) main_v102) (TRef.of (T := ⟨S64x3000x3, .f32⟩) main_arg2) (TRef.of (T := ⟨S64x3000x3, .f32⟩) main_v111) select,
    binary main_v81 main_v111 main_v112 (subf : Fb F S64x3000x3 → Fb F S64x3000x3 → Fb F S64x3000x3),
    TRef.binary (TRef.of (T := ⟨S64x3000x3, .f32⟩) main_v112) (TRef.of (T := ⟨S64x3000x3, .f32⟩) main_v112) (TRef.of (T := ⟨S64x3000x3, .f32⟩) main_call3_v0) mulf,
    TRef.nullary (TRef.of (T := ⟨S_, .f32⟩) main_call3_cst) (constant S_ .f32 0x00000000#32),
    TRef.binary (TRef.of (T := ⟨S64x3000x3, .f32⟩) main_call3_v0) (TRef.of (T := ⟨S_, .f32⟩) main_call3_cst) (TRef.of (T := ⟨S64x3000, .f32⟩) main_call3_v1) (fun x v => Host.reduceAdd x v reducesTo_S64x3000x3_S64x3000_d2 h_S_),
    TRef.unary (TRef.of (T := ⟨S64x3000, .f32⟩) main_call3_v1) (TRef.of (T := ⟨S64x3000, .f32⟩) main_v113) Host.sqrt,
    nullary main_cst_17 (constant S_ .f32 0x00000000#32),
    binary main_v113 main_cst_17 main_v114 ((fun x v => Host.reduceAdd x v reducesTo_S64x3000_S64_d1 h_S_) : Fb F S64x3000 → Fb F S_ → Fb F S64),
    nullary main_cst_18 (constant S_ .f32 0x453B8000#32),
    unary main_cst_18 main_v115 (broadcastInDim S64 ![] bcast_S_S64 : Fb F S_ → Fb F S64),
    binary main_v114 main_v115 main_v116 (Host.divf : Fb F S64 → Fb F S64 → Fb F S64) ]

/-- What they write. -/
abbrev opsL_W : List (Ref sig .tc) := [main_call2_v0, main_v111, main_v112, main_call3_v0, main_call3_cst, main_call3_v1, main_v113, main_cst_17, main_v114, main_cst_18, main_v115, main_v116]

/-! ## The program is these lists in a row -/

def opsP0 : List (HloOp τ sig (Elt F)) := opsQ ++ opsR0
def opsP1 : List (HloOp τ sig (Elt F)) := opsR1 ++ (opsT ++ (opsD ++ (opsA ++ opsI)))
def opsP2 : List (HloOp τ sig (Elt F)) := opsG ++ (opsM ++ opsL)
/-- All the host lines. -/
abbrev ops : List (HloOp τ sig (Elt F)) := opsP0 ++ (opsP1 ++ opsP2)

set_option maxRecDepth 8192 in
set_option maxHeartbeats 4000000 in
theorem main_part0_eq (c : Dev nD) : main_part0 (F := F) c = seq opsP0 := rfl
set_option maxRecDepth 8192 in
set_option maxHeartbeats 4000000 in
theorem main_part1_eq (c : Dev nD) : main_part1 (F := F) c = seq opsP1 := rfl
set_option maxRecDepth 8192 in
theorem main_part2_eq (c : Dev nD) : main_part2 (F := F) c = seq opsP2 := rfl
set_option maxRecDepth 8192 in
theorem main_eq (c : Dev nD) : main (F := F) c = seq ops := by
  simp only [ops, seq_append, ← main_part0_eq c, ← main_part1_eq c, ← main_part2_eq c]
  rfl
theorem scopedRefs_eq : (Finset.univ.filter fun b : Ref sig .tc => b.isScoped) = ∅ := by decide
theorem scopedSems_eq : (Finset.univ.filter fun sm : SemLoc sig => sm.isScoped .tc) = ∅ := by decide

/-! ## What each list touches, allocates and writes -/

set_option maxRecDepth 8192 in
theorem opsQ_sub : (opsQ : List (HloOp τ sig (Elt F))).Forall fun op => op.bufs ⊆ tcRefs τ sig := by
  simp only [List.Forall, TRef.nullary, TRef.unary, TRef.binary, TRef.ternary, TRef.quaternary, nullary_bufs_sub, unary_bufs_sub,
    binary_bufs_sub, ternary_bufs_sub, quaternary_bufs_sub, reshape_bufs_sub, nary_bufs_sub, and_self]
set_option maxRecDepth 8192 in
theorem opsQ_fresh : (opsQ : List (HloOp τ sig (Elt F))).Forall fun op => op.fresh = ∅ := by
  repeat' apply And.intro
  all_goals rfl
set_option maxRecDepth 8192 in
theorem opsQ_keep (V : Valuation τ sig (Elt F)) (r : Ref sig .tc) (h : r ∉ opsQ_W) :
    after opsQ V (Proc.devRef .tc r) = V (Proc.devRef .tc r) :=
  after_of_writes_sub opsQ _ (forall_writes_sub_of_map rfl) h

set_option maxRecDepth 8192 in
theorem opsR0_sub : (opsR0 : List (HloOp τ sig (Elt F))).Forall fun op => op.bufs ⊆ tcRefs τ sig := by
  simp only [List.Forall, TRef.nullary, TRef.unary, TRef.binary, TRef.ternary, TRef.quaternary, nullary_bufs_sub, unary_bufs_sub,
    binary_bufs_sub, ternary_bufs_sub, quaternary_bufs_sub, reshape_bufs_sub, nary_bufs_sub, and_self]
set_option maxRecDepth 8192 in
theorem opsR0_fresh : (opsR0 : List (HloOp τ sig (Elt F))).Forall fun op => op.fresh = ∅ := by
  repeat' apply And.intro
  all_goals rfl
set_option maxRecDepth 8192 in
theorem opsR0_keep (V : Valuation τ sig (Elt F)) (r : Ref sig .tc) (h : r ∉ opsR0_W) :
    after opsR0 V (Proc.devRef .tc r) = V (Proc.devRef .tc r) :=
  after_of_writes_sub opsR0 _ (forall_writes_sub_of_map rfl) h

set_option maxRecDepth 8192 in
theorem opsR1_sub : (opsR1 : List (HloOp τ sig (Elt F))).Forall fun op => op.bufs ⊆ tcRefs τ sig := by
  simp only [List.Forall, TRef.nullary, TRef.unary, TRef.binary, TRef.ternary, TRef.quaternary, nullary_bufs_sub, unary_bufs_sub,
    binary_bufs_sub, ternary_bufs_sub, quaternary_bufs_sub, reshape_bufs_sub, nary_bufs_sub, and_self]
set_option maxRecDepth 8192 in
theorem opsR1_fresh : (opsR1 : List (HloOp τ sig (Elt F))).Forall fun op => op.fresh = ∅ := by
  repeat' apply And.intro
  all_goals rfl
set_option maxRecDepth 8192 in
theorem opsR1_keep (V : Valuation τ sig (Elt F)) (r : Ref sig .tc) (h : r ∉ opsR1_W) :
    after opsR1 V (Proc.devRef .tc r) = V (Proc.devRef .tc r) :=
  after_of_writes_sub opsR1 _ (forall_writes_sub_of_map rfl) h

set_option maxRecDepth 8192 in
theorem opsT_sub : (opsT : List (HloOp τ sig (Elt F))).Forall fun op => op.bufs ⊆ tcRefs τ sig := by
  simp only [List.Forall, TRef.nullary, TRef.unary, TRef.binary, TRef.ternary, TRef.quaternary, nullary_bufs_sub, unary_bufs_sub,
    binary_bufs_sub, ternary_bufs_sub, quaternary_bufs_sub, reshape_bufs_sub, nary_bufs_sub, and_self]
set_option maxRecDepth 8192 in
theorem opsT_fresh : (opsT : List (HloOp τ sig (Elt F))).Forall fun op => op.fresh = ∅ := by
  repeat' apply And.intro
  all_goals rfl
set_option maxRecDepth 8192 in
theorem opsT_keep (V : Valuation τ sig (Elt F)) (r : Ref sig .tc) (h : r ∉ opsT_W) :
    after opsT V (Proc.devRef .tc r) = V (Proc.devRef .tc r) :=
  after_of_writes_sub opsT _ (forall_writes_sub_of_map rfl) h

set_option maxRecDepth 8192 in
theorem opsD_sub : (opsD : List (HloOp τ sig (Elt F))).Forall fun op => op.bufs ⊆ tcRefs τ sig := by
  simp only [List.Forall, TRef.nullary, TRef.unary, TRef.binary, TRef.ternary, TRef.quaternary, nullary_bufs_sub, unary_bufs_sub,
    binary_bufs_sub, ternary_bufs_sub, quaternary_bufs_sub, reshape_bufs_sub, nary_bufs_sub, and_self]
set_option maxRecDepth 8192 in
theorem opsD_fresh : (opsD : List (HloOp τ sig (Elt F))).Forall fun op => op.fresh = ∅ := by
  repeat' apply And.intro
  all_goals rfl
set_option maxRecDepth 8192 in
theorem opsD_keep (V : Valuation τ sig (Elt F)) (r : Ref sig .tc) (h : r ∉ opsD_W) :
    after opsD V (Proc.devRef .tc r) = V (Proc.devRef .tc r) :=
  after_of_writes_sub opsD _ (forall_writes_sub_of_map rfl) h

set_option maxRecDepth 8192 in
theorem opsA_sub : (opsA : List (HloOp τ sig (Elt F))).Forall fun op => op.bufs ⊆ tcRefs τ sig := by
  simp only [List.Forall, TRef.nullary, TRef.unary, TRef.binary, TRef.ternary, TRef.quaternary, nullary_bufs_sub, unary_bufs_sub,
    binary_bufs_sub, ternary_bufs_sub, quaternary_bufs_sub, reshape_bufs_sub, nary_bufs_sub, and_self]
set_option maxRecDepth 8192 in
theorem opsA_fresh : (opsA : List (HloOp τ sig (Elt F))).Forall fun op => op.fresh = ∅ := by
  repeat' apply And.intro
  all_goals rfl
set_option maxRecDepth 8192 in
theorem opsA_keep (V : Valuation τ sig (Elt F)) (r : Ref sig .tc) (h : r ∉ opsA_W) :
    after opsA V (Proc.devRef .tc r) = V (Proc.devRef .tc r) :=
  after_of_writes_sub opsA _ (forall_writes_sub_of_map rfl) h

set_option maxRecDepth 8192 in
theorem opsI_sub : (opsI : List (HloOp τ sig (Elt F))).Forall fun op => op.bufs ⊆ tcRefs τ sig := by
  simp only [List.Forall, TRef.nullary, TRef.unary, TRef.binary, TRef.ternary, TRef.quaternary, nullary_bufs_sub, unary_bufs_sub,
    binary_bufs_sub, ternary_bufs_sub, quaternary_bufs_sub, reshape_bufs_sub, nary_bufs_sub, and_self]
set_option maxRecDepth 8192 in
theorem opsI_fresh : (opsI : List (HloOp τ sig (Elt F))).Forall fun op => op.fresh = ∅ := by
  repeat' apply And.intro
  all_goals rfl
set_option maxRecDepth 8192 in
theorem opsI_keep (V : Valuation τ sig (Elt F)) (r : Ref sig .tc) (h : r ∉ opsI_W) :
    after opsI V (Proc.devRef .tc r) = V (Proc.devRef .tc r) :=
  after_of_writes_sub opsI _ (forall_writes_sub_of_map rfl) h

set_option maxRecDepth 8192 in
theorem opsG_sub : (opsG : List (HloOp τ sig (Elt F))).Forall fun op => op.bufs ⊆ tcRefs τ sig := by
  simp only [List.Forall, TRef.nullary, TRef.unary, TRef.binary, TRef.ternary, TRef.quaternary, nullary_bufs_sub, unary_bufs_sub,
    binary_bufs_sub, ternary_bufs_sub, quaternary_bufs_sub, reshape_bufs_sub, nary_bufs_sub, and_self]
set_option maxRecDepth 8192 in
theorem opsG_fresh : (opsG : List (HloOp τ sig (Elt F))).Forall fun op => op.fresh = ∅ := by
  repeat' apply And.intro
  all_goals rfl
set_option maxRecDepth 8192 in
theorem opsG_keep (V : Valuation τ sig (Elt F)) (r : Ref sig .tc) (h : r ∉ opsG_W) :
    after opsG V (Proc.devRef .tc r) = V (Proc.devRef .tc r) :=
  after_of_writes_sub opsG _ (forall_writes_sub_of_map rfl) h

set_option maxRecDepth 8192 in
theorem opsM_sub : (opsM : List (HloOp τ sig (Elt F))).Forall fun op => op.bufs ⊆ tcRefs τ sig := by
  simp only [List.Forall, TRef.nullary, TRef.unary, TRef.binary, TRef.ternary, TRef.quaternary, nullary_bufs_sub, unary_bufs_sub,
    binary_bufs_sub, ternary_bufs_sub, quaternary_bufs_sub, reshape_bufs_sub, nary_bufs_sub, and_self]
set_option maxRecDepth 8192 in
theorem opsM_fresh : (opsM : List (HloOp τ sig (Elt F))).Forall fun op => op.fresh = ∅ := by
  repeat' apply And.intro
  all_goals rfl
set_option maxRecDepth 8192 in
theorem opsM_keep (V : Valuation τ sig (Elt F)) (r : Ref sig .tc) (h : r ∉ opsM_W) :
    after opsM V (Proc.devRef .tc r) = V (Proc.devRef .tc r) :=
  after_of_writes_sub opsM _ (forall_writes_sub_of_map rfl) h

set_option maxRecDepth 8192 in
theorem opsL_sub : (opsL : List (HloOp τ sig (Elt F))).Forall fun op => op.bufs ⊆ tcRefs τ sig := by
  simp only [List.Forall, TRef.nullary, TRef.unary, TRef.binary, TRef.ternary, TRef.quaternary, nullary_bufs_sub, unary_bufs_sub,
    binary_bufs_sub, ternary_bufs_sub, quaternary_bufs_sub, reshape_bufs_sub, nary_bufs_sub, and_self]
set_option maxRecDepth 8192 in
theorem opsL_fresh : (opsL : List (HloOp τ sig (Elt F))).Forall fun op => op.fresh = ∅ := by
  repeat' apply And.intro
  all_goals rfl
set_option maxRecDepth 8192 in
theorem opsL_keep (V : Valuation τ sig (Elt F)) (r : Ref sig .tc) (h : r ∉ opsL_W) :
    after opsL V (Proc.devRef .tc r) = V (Proc.devRef .tc r) :=
  after_of_writes_sub opsL _ (forall_writes_sub_of_map rfl) h

/-- A statement of every operation holds of the whole line once it holds of each list. -/
theorem ops_all {p : HloOp τ sig (Elt F) → Prop} (h : (opsQ.Forall p ∧ opsR0.Forall p) ∧ opsR1.Forall p ∧ opsT.Forall p ∧ opsD.Forall p
    ∧ opsA.Forall p ∧ opsI.Forall p ∧ opsG.Forall p ∧ opsM.Forall p ∧ opsL.Forall p) : ∀ op ∈ (ops : List (HloOp τ sig (Elt F))), p op := by
  simp only [List.forall_iff_forall_mem] at h
  obtain ⟨⟨h0, h1⟩, h2, h3, h4, h5, h6, h7, h8, h9⟩ := h
  intro op hop
  simp only [ops, opsP0, opsP1, opsP2, List.mem_append, or_assoc] at hop
  rcases hop with x | x | x | x | x | x | x | x | x | x
  exacts [h0 op x, h1 op x, h2 op x, h3 op x, h4 op x, h5 op x, h6 op x, h7 op x, h8 op x, h9 op x]

theorem ops_sub : (ops : List (HloOp τ sig (Elt F))).Forall fun op => op.bufs ⊆ tcRefs τ sig :=
  List.forall_iff_forall_mem.mpr (ops_all ⟨⟨opsQ_sub, opsR0_sub⟩, opsR1_sub, opsT_sub, opsD_sub, opsA_sub, opsI_sub, opsG_sub, opsM_sub, opsL_sub⟩)
theorem ops_fresh : ∀ op ∈ (ops : List (HloOp τ sig (Elt F))), op.fresh = ∅ :=
  ops_all ⟨⟨opsQ_fresh, opsR0_fresh⟩, opsR1_fresh, opsT_fresh, opsD_fresh, opsA_fresh, opsI_fresh, opsG_fresh, opsM_fresh, opsL_fresh⟩

/-! ## The contents after the lines -/

section Stages
variable (V : Valuation τ sig (Elt F))
/-- The contents once the rotation matrix is there, the transformed points, the distances, the nearest index, the index as
    the gather takes it, the gathered targets, the symmetry mask, and at the end. -/
def atR : Valuation τ sig (Elt F) := after opsR1 (after opsR0 (after opsQ V))
def atT : Valuation τ sig (Elt F) := after opsT (atR V)
def atD : Valuation τ sig (Elt F) := after opsD (atT V)
def atA : Valuation τ sig (Elt F) := after opsA (atD V)
def atI : Valuation τ sig (Elt F) := after opsI (atA V)
def atG : Valuation τ sig (Elt F) := after opsG (atI V)
def atM : Valuation τ sig (Elt F) := after opsM (atG V)
def atL : Valuation τ sig (Elt F) := after opsL (atM V)

theorem after_ops : after ops V = atL V := by
  simp only [ops, opsP0, opsP1, opsP2, after_append]
  rfl

theorem atR_keep (r : Ref sig .tc) (h : r ∉ opsQ_W ++ opsR0_W ++ opsR1_W) : atR V (Proc.devRef .tc r) = V (Proc.devRef .tc r) := by
  simp only [List.mem_append, not_or] at h
  exact (opsR1_keep _ r h.2).trans ((opsR0_keep _ r h.1.2).trans (opsQ_keep _ r h.1.1))
theorem atT_keep (r : Ref sig .tc) (h : r ∉ opsT_W) : atT V (Proc.devRef .tc r) = atR V (Proc.devRef .tc r) := opsT_keep _ r h
theorem atD_keep (r : Ref sig .tc) (h : r ∉ opsD_W) : atD V (Proc.devRef .tc r) = atT V (Proc.devRef .tc r) := opsD_keep _ r h
theorem atA_keep (r : Ref sig .tc) (h : r ∉ opsA_W) : atA V (Proc.devRef .tc r) = atD V (Proc.devRef .tc r) := opsA_keep _ r h
theorem atI_keep (r : Ref sig .tc) (h : r ∉ opsI_W) : atI V (Proc.devRef .tc r) = atA V (Proc.devRef .tc r) := opsI_keep _ r h
theorem atG_keep (r : Ref sig .tc) (h : r ∉ opsG_W) : atG V (Proc.devRef .tc r) = atI V (Proc.devRef .tc r) := opsG_keep _ r h
theorem atM_keep (r : Ref sig .tc) (h : r ∉ opsM_W) : atM V (Proc.devRef .tc r) = atG V (Proc.devRef .tc r) := opsM_keep _ r h
theorem atL_keep (r : Ref sig .tc) (h : r ∉ opsL_W) : atL V (Proc.devRef .tc r) = atM V (Proc.devRef .tc r) := opsL_keep _ r h

/-- A buffer no line writes ends as it began. -/
theorem atL_arg (r : Ref sig .tc) (h : (r ∉ opsQ_W ++ opsR0_W ++ opsR1_W) ∧ r ∉ opsT_W ∧ r ∉ opsD_W ∧ r ∉ opsA_W ∧ r ∉ opsI_W ∧ r ∉ opsG_W
    ∧ r ∉ opsM_W ∧ r ∉ opsL_W) : atL V (Proc.devRef .tc r) = V (Proc.devRef .tc r) := by
  obtain ⟨h0, h1, h2, h3, h4, h5, h6, h7⟩ := h
  rw [atL_keep V r h7, atM_keep V r h6, atG_keep V r h5, atI_keep V r h4, atA_keep V r h3, atD_keep V r h2, atT_keep V r h1, atR_keep V r h0]
end Stages

/-! ## The run -/

variable (m : (ℓ : Loc nD τ sig) → Buf (Elt F) ℓ) (ρ : Dev nD → PrngReg)

/-- The reference ends with every buffer at what its lines leave. -/
theorem run_all : θ_run defs (onTc (τ := τ) (main (F := F))) ⟨m, fun _ => 0, ρ⟩ fun r =>
      ∀ (c : Dev nD) (b : Ref sig .tc), r.2.mem ((c : Thread nD τ).loc b) = atL (launchContents m c) (Proc.devRef .tc b) :=
  (θ_run defs _ _).mono (fun _ h c b => (h c b).trans (congrFun (after_ops (launchContents m c)) (Proc.devRef .tc b)))
    (run_seq scopedRefs_eq scopedSems_eq defs main (fun _ => ops) main_eq (fun _ => ops_sub) m ρ fun _ => ops_fresh)

/-- The reference ends with its result at what its lines leave and its arguments as they were. -/
theorem run : θ_run defs (onTc (τ := τ) (main (F := F))) ⟨m, fun _ => 0, ρ⟩ fun r => ∀ c : Dev nD,
      r.2.mem ((c.tc : Thread nD τ).loc main_v116) = atL (launchContents m c) (Proc.devRef .tc main_v116)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨h c main_v116, (h c main_arg0).trans (atL_arg _ main_arg0 (by decide)),
    (h c main_arg1).trans (atL_arg _ main_arg1 (by decide)), (h c main_arg2).trans (atL_arg _ main_arg2 (by decide)),
    (h c main_arg3).trans (atL_arg _ main_arg3 (by decide)), (h c main_arg4).trans (atL_arg _ main_arg4 (by decide))⟩) (run_all m ρ)

/-- The reference's frame: it ends, its arguments unchanged and every counter (it has none) zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => (h c).2, sem_eq_zero_of_no_sems rfl r.2⟩) (run m ρ)

end Cert.Proof.Ref

end
-- ==== Proof.Math.lean ====
/-
  THE MATHEMATICS, over the extended reals, with no program in it: the rotation of a quaternion, the transformed point,
  the distance, the two ways of finding the distance to the nearest target, and their equality under the bounds of
  `moderate`.
-/
module

public import Idealize.ShloMosaic.PureOps.Ideal
public import Idealize.ShloMosaic.PureOps.Ideal.Laws

@[expose] public section

noncomputable section

namespace Cert.Proof.Math

open Idealize.ShloMosaic

/-! ## The constants -/

/-- The words of the programs' constants: 2, -2, the padding (about 1e15), 3000, the bound 1e13. -/
abbrev two : EReal := Ideal.ofBits .f32 0x40000000#32
abbrev mtwo : EReal := Ideal.ofBits .f32 0xC0000000#32
abbrev far : EReal := Ideal.ofBits .f32 0x58635FA9#32
abbrev count : EReal := Ideal.ofBits .f32 0x453B8000#32
abbrev bound : EReal := Ideal.ofBits .f32 0x551184E7#32

/-- The padding as a real number. -/
abbrev farR : ℝ := 999999986991104

theorem two_eq : two = ((2 : ℝ) : EReal) := by
  simp [two, Ideal.ofBits, Ideal.ieee, -EReal.coe_mul]; norm_num
theorem mtwo_eq : mtwo = ((-2 : ℝ) : EReal) := by
  simp [mtwo, Ideal.ofBits, Ideal.ieee, -EReal.coe_mul]; norm_num
theorem far_eq : far = ((farR : ℝ) : EReal) := by
  simp [far, Ideal.ofBits, Ideal.ieee, -EReal.coe_mul]; norm_num
theorem bound_eq : ∃ M : ℝ, bound = ((M : ℝ) : EReal) ∧ 0 ≤ M ∧ M ≤ 10000000000000 := by
  refine ⟨9999999827968, ?_, by norm_num, by norm_num⟩
  simp [bound, Ideal.ofBits, Ideal.ieee, -EReal.coe_mul]; norm_num

/-! ## The functions -/

/-- A quaternion over its norm. -/
def unit (r : Fin 4 → EReal) (k : Fin 4) : EReal := Ideal.div (r k) (Ideal.sqrt (∑ i, r i * r i))

/-- The rotation matrix of a quaternion. -/
def rot (q : Fin 4 → EReal) (d e : Fin 3) : EReal :=
  (![![1 - two * (q 2 * q 2 + q 3 * q 3), two * (q 1 * q 2 - q 0 * q 3), two * (q 1 * q 3 + q 0 * q 2)],
     ![two * (q 1 * q 2 + q 0 * q 3), 1 - two * (q 1 * q 1 + q 3 * q 3), two * (q 2 * q 3 - q 0 * q 1)],
     ![two * (q 1 * q 3 - q 0 * q 2), two * (q 2 * q 3 + q 0 * q 1), 1 - two * (q 1 * q 1 + q 2 * q 2)]] : Fin 3 → Fin 3 → EReal) d e

/-- A model point turned and moved. -/
def point (p : Fin 3 → EReal) (R : Fin 3 → Fin 3 → EReal) (t : Fin 3 → EReal) (e : Fin 3) : EReal := (∑ d, p d * R d e) + t e

/-- The distance of two points. -/
def dist (u v : Fin 3 → EReal) : EReal := Ideal.sqrt (∑ e, (u e - v e) * (u e - v e))

/-- The squared distance as the reference expands it. -/
def expanded (u v : Fin 3 → EReal) : EReal := ((∑ e, u e * u e) + ∑ e, v e * v e) - two * ∑ e, u e * v e

/-- The four coordinates of a quaternion. -/
def quad (w x y z : EReal) : Fin 4 → EReal := ![w, x, y, z]

/-- The part of the squared distance that depends on the target, in the kernel's order of operations. -/
def partial2 (u v : Fin 3 → EReal) : EReal :=
  (((v 0 * v 0 + v 1 * v 1) + v 2 * v 2) + v 0 * (mtwo * u 0)) + (v 1 * (mtwo * u 1) + v 2 * (mtwo * u 2))

/-- The targets with the padding after them. -/
def padded (c : EReal) (tgt : Fin 3000 → Fin 3 → EReal) (k : Fin 3072) (e : Fin 3) : EReal :=
  if h : k.val < 3000 then tgt ⟨k.val, h⟩ e else c

/-- Whether an index is one of a table of five. -/
def inTable (table : Fin 5 → BitVec 32) (i : BitVec 32) : BitVec 1 :=
  Finset.univ.fold IntOp.ori 0#1 fun k => IntOp.cmpi .eq i (table k)

/-! ## The real numbers -/

theorem exists_real {x : EReal} (M : ℝ) (h : max x (-x) ≤ (M : EReal)) : ∃ y : ℝ, x = (y : EReal) ∧ |y| ≤ M := by
  induction x using EReal.rec with
  | bot => simp at h
  | top => simp at h
  | coe y =>
    refine ⟨y, rfl, ?_⟩
    have h1 := (max_le_iff.1 h)
    exact abs_le'.2 ⟨EReal.coe_le_coe_iff.1 h1.1, EReal.coe_le_coe_iff.1 (by simpa using h1.2)⟩

theorem exists_real_of_lt {x : EReal} (h : max x (-x) < ⊤) : ∃ y : ℝ, x = (y : EReal) := by
  induction x using EReal.rec with
  | bot => simp at h
  | top => simp at h
  | coe y => exact ⟨y, rfl⟩

theorem sqrt_real {y : ℝ} (h : 0 ≤ y) : Ideal.sqrt (y : EReal) = ((Real.sqrt y : ℝ) : EReal) := by
  change (if y < 0 then (⊥ : EReal) else ((Real.sqrt y : ℝ) : EReal)) = _
  rw [if_neg (not_lt.2 h)]

theorem unit_real (r : Fin 4 → ℝ) (h : ∃ k, r k ≠ 0) :
    ∃ q : Fin 4 → ℝ, (unit (fun k => (r k : EReal)) = fun k => (q k : EReal)) ∧ ∀ k, |q k| ≤ 1 := by
  have hs : 0 < ∑ i, r i * r i := by
    obtain ⟨k, hk⟩ := h
    exact Finset.sum_pos' (fun i _ => mul_self_nonneg _) ⟨k, Finset.mem_univ _, mul_self_pos.2 hk⟩
  have hn : 0 < Real.sqrt (∑ i, r i * r i) := Real.sqrt_pos.2 hs
  refine ⟨fun k => r k * (1 / Real.sqrt (∑ i, r i * r i)), ?_, fun k => ?_⟩
  · funext k
    have e : (∑ i, (r i : EReal) * (r i : EReal)) = ((∑ i, r i * r i : ℝ) : EReal) := by
      simp only [Fin.sum_univ_four]; push_cast; rfl
    rw [unit, e, sqrt_real hs.le, Ideal.div_coe hn.ne']
    push_cast; rfl
  · change |r k * (1 / Real.sqrt (∑ i, r i * r i))| ≤ 1
    rw [mul_one_div, abs_div, abs_of_pos hn, div_le_one hn, ← Real.sqrt_sq_eq_abs, sq]
    exact Real.sqrt_le_sqrt (Finset.single_le_sum (f := fun i => r i * r i) (fun i _ => mul_self_nonneg _) (Finset.mem_univ k))

/-- A quaternion with an infinite coordinate has an infinite norm, and what the division leaves of it is zero. -/
theorem unit_infinite (r : Fin 4 → EReal) (k : Fin 4) (h : max (r k) (-r k) = ⊤) : unit r = fun _ => ((0 : ℝ) : EReal) := by
  have hk : r k * r k = ⊤ := by
    rcases max_choice (r k) (-r k) with e | e
    · rw [← e, h]; rfl
    · rw [e] at h
      rw [EReal.neg_eq_top_iff.1 h]; rfl
  have nonneg : ∀ i, 0 ≤ r i * r i := fun i => by
    rcases le_total 0 (r i) with e | e
    · exact mul_nonneg e e
    · rw [← neg_mul_neg]; exact mul_nonneg (EReal.neg_nonneg.2 e) (EReal.neg_nonneg.2 e)
  have hs : ∑ i, r i * r i = ⊤ :=
    top_le_iff.1 (hk.symm.trans_le (Finset.single_le_sum (f := fun i => r i * r i) (fun i _ => nonneg i) (Finset.mem_univ k)))
  funext i
  rw [unit, hs, show Ideal.sqrt ⊤ = ⊤ from rfl, Ideal.div, if_neg EReal.top_ne_zero, EReal.inv_top, mul_zero]
  rfl

/-- A quaternion that is not zero, divided by its norm, is real and has no coordinate above one. -/
theorem unit_bounded (r : Fin 4 → EReal) (h : ∃ k, 0 < max (r k) (-r k)) :
    ∃ q : Fin 4 → ℝ, (unit r = fun k => (q k : EReal)) ∧ ∀ k, |q k| ≤ 1 := by
  by_cases hf : ∀ k, max (r k) (-r k) < ⊤
  · choose q' hq' using fun k => exists_real_of_lt (hf k)
    obtain ⟨k, hk⟩ := h
    rw [show r = fun k => (q' k : EReal) from funext hq']
    refine unit_real q' ⟨k, fun e => ?_⟩
    rw [hq' k, e] at hk
    simp at hk
  · obtain ⟨k, hk⟩ := not_forall.1 hf
    exact ⟨fun _ => 0, unit_infinite r k (not_lt_top_iff.1 hk), fun _ => by simp⟩

theorem rot_real (q : Fin 4 → ℝ) (hq : ∀ k, |q k| ≤ 1) :
    ∃ R : Fin 3 → Fin 3 → ℝ, (∀ d e, rot (fun k => (q k : EReal)) d e = (R d e : EReal)) ∧ ∀ d e, |R d e| ≤ 5 := by
  have h : ∀ i j, |q i * q j| ≤ 1 := fun i j => by
    rw [abs_mul]; exact mul_le_one₀ (hq i) (abs_nonneg _) (hq j)
  have key : ∀ d e, ∃ y : ℝ, rot (fun k => (q k : EReal)) d e = (y : EReal) ∧ |y| ≤ 5 := by
    intro d e
    have dia : ∀ i j, ∃ y : ℝ, 1 - two * ((q i : EReal) * (q i : EReal) + (q j : EReal) * (q j : EReal)) = (y : EReal) ∧ |y| ≤ 5 := by
      intro i j
      refine ⟨1 - 2 * (q i * q i + q j * q j), by rw [two_eq]; push_cast; rfl, ?_⟩
      have a := abs_le.1 (h i i); have b := abs_le.1 (h j j)
      rw [abs_le]; constructor <;> linarith
    have add : ∀ i j k l, ∃ y : ℝ, two * ((q i : EReal) * (q j : EReal) + (q k : EReal) * (q l : EReal)) = (y : EReal) ∧ |y| ≤ 5 := by
      intro i j k l
      refine ⟨2 * (q i * q j + q k * q l), by rw [two_eq]; push_cast; rfl, ?_⟩
      have a := abs_le.1 (h i j); have b := abs_le.1 (h k l)
      rw [abs_le]; constructor <;> linarith
    have sub : ∀ i j k l, ∃ y : ℝ, two * ((q i : EReal) * (q j : EReal) - (q k : EReal) * (q l : EReal)) = (y : EReal) ∧ |y| ≤ 5 := by
      intro i j k l
      refine ⟨2 * (q i * q j - q k * q l), by rw [two_eq]; push_cast; rfl, ?_⟩
      have a := abs_le.1 (h i j); have b := abs_le.1 (h k l)
      rw [abs_le]; constructor <;> linarith
    fin_cases d <;> fin_cases e
    · exact dia 2 3
    · exact sub 1 2 0 3
    · exact add 1 3 0 2
    · exact add 1 2 0 3
    · exact dia 1 3
    · exact sub 2 3 0 1
    · exact sub 1 3 0 2
    · exact add 2 3 0 1
    · exact dia 1 2
  choose R hR using key
  exact ⟨R, fun d e => (hR d e).1, fun d e => (hR d e).2⟩

theorem point_real (M : ℝ) (p : Fin 3 → ℝ) (R : Fin 3 → Fin 3 → ℝ) (t : Fin 3 → ℝ) (hp : ∀ d, |p d| ≤ M) (hR : ∀ d e, |R d e| ≤ 5)
    (ht : ∀ e, |t e| ≤ M) :
    ∃ u : Fin 3 → ℝ, (point (fun d => (p d : EReal)) (fun d e => (R d e : EReal)) (fun e => (t e : EReal)) = fun e => (u e : EReal))
      ∧ ∀ e, |u e| ≤ 16 * M := by
  refine ⟨fun e => (p 0 * R 0 e + p 1 * R 1 e + p 2 * R 2 e) + t e, ?_, fun e => ?_⟩
  · funext e; simp only [point, Fin.sum_univ_three]; push_cast; rfl
  · have h : ∀ d, |p d * R d e| ≤ M * 5 := fun d => by
      rw [abs_mul]; exact mul_le_mul (hp d) (hR d e) (abs_nonneg _) ((abs_nonneg _).trans (hp d))
    have a := abs_le.1 (h 0); have b := abs_le.1 (h 1); have c := abs_le.1 (h 2); have d := abs_le.1 (ht e)
    rw [abs_le]; constructor <;> linarith

/-! ## The nearest target -/

/-- The padding is never nearer than a target. -/
theorem far_not_least (M : ℝ) (hM : M ≤ 10000000000000) (u v : Fin 3 → ℝ) (hu : ∀ e, |u e| ≤ 16 * M) (hv : ∀ e, |v e| ≤ M) :
    (v 0 * v 0 + v 1 * v 1 + v 2 * v 2) - 2 * (u 0 * v 0 + u 1 * v 1 + u 2 * v 2)
      ≤ (farR * farR + farR * farR + farR * farR) - 2 * (u 0 * farR + u 1 * farR + u 2 * farR) := by
  have m0 : 0 ≤ M := (abs_nonneg _).trans (hv 0)
  have h1 : ∀ e, v e * v e ≤ M * M := fun e => by
    rw [← abs_mul_abs_self]; exact mul_le_mul (hv e) (hv e) (abs_nonneg _) m0
  have h2 : ∀ e, -(u e * v e) ≤ 16 * M * M := fun e => by
    refine (neg_le_abs _).trans ?_
    rw [abs_mul]; exact mul_le_mul (hu e) (hv e) (abs_nonneg _) (by linarith)
  have h3 : ∀ e, u e ≤ 160000000000000 := fun e => (le_abs_self _).trans ((hu e).trans (by linarith))
  have h4 : M * M ≤ 10000000000000 * 10000000000000 := mul_le_mul hM hM m0 (by norm_num)
  have a0 := h1 0; have a1 := h1 1; have a2 := h1 2
  have b0 := h2 0; have b1 := h2 1; have b2 := h2 2
  have c0 := h3 0; have c1 := h3 1; have c2 := h3 2
  simp only [farR]
  nlinarith

/-- The kernel's distance to the nearest target, least over the padded targets, is the distance to any target at which
    the reference's expanded squared distance is least. -/
theorem nearest (M : ℝ) (hM : M ≤ 10000000000000) (u : Fin 3 → ℝ) (tgt : Fin 3000 → Fin 3 → ℝ) (hu : ∀ e, |u e| ≤ 16 * M)
    (ht : ∀ j e, |tgt j e| ≤ M) (U : Fin 3 → EReal) (hU : U = fun e => (u e : EReal)) (T : Fin 3000 → Fin 3 → EReal)
    (hT : T = fun j e => (tgt j e : EReal)) (a : Fin 3000)
    (ha : ∀ j, expanded U (T a) ≤ expanded U (T j))
    (m : EReal) (hm : ∀ x, x ≤ m ↔ ∀ k, x ≤ partial2 U (padded far T k)) :
    Ideal.sqrt (max (m + ((U 0 * U 0 + U 1 * U 1) + U 2 * U 2)) 0) = dist U (T a) := by
  subst hU hT
  have e1 : ∀ j, expanded (fun e => (u e : EReal)) (fun e => (tgt j e : EReal))
      = (((u 0 * u 0 + u 1 * u 1 + u 2 * u 2) + (tgt j 0 * tgt j 0 + tgt j 1 * tgt j 1 + tgt j 2 * tgt j 2)
          - 2 * (u 0 * tgt j 0 + u 1 * tgt j 1 + u 2 * tgt j 2) : ℝ) : EReal) := fun j => by
    simp only [expanded, Fin.sum_univ_three, two_eq]; push_cast; rfl
  have e2 : ∀ v : Fin 3 → ℝ, partial2 (fun e => (u e : EReal)) (fun e => (v e : EReal))
      = (((v 0 * v 0 + v 1 * v 1 + v 2 * v 2) - 2 * (u 0 * v 0 + u 1 * v 1 + u 2 * v 2) : ℝ) : EReal) := fun v => by
    have : ((v 0 * v 0 + v 1 * v 1 + v 2 * v 2) - 2 * (u 0 * v 0 + u 1 * v 1 + u 2 * v 2) : ℝ)
        = (((v 0 * v 0 + v 1 * v 1) + v 2 * v 2) + v 0 * (-2 * u 0)) + (v 1 * (-2 * u 1) + v 2 * (-2 * u 2)) := by ring
    rw [this]
    simp only [partial2, mtwo_eq]; push_cast; rfl
  have e3 : m = (((tgt a 0 * tgt a 0 + tgt a 1 * tgt a 1 + tgt a 2 * tgt a 2) - 2 * (u 0 * tgt a 0 + u 1 * tgt a 1 + u 2 * tgt a 2) : ℝ) : EReal) := by
    apply le_antisymm
    · have := (hm m).1 le_rfl ⟨a.val, by have := a.isLt; omega⟩
      have p : padded far (fun j e => (tgt j e : EReal)) ⟨a.val, by have := a.isLt; omega⟩ = fun e => (tgt a e : EReal) := by
        funext e; simp [padded]
      rw [p, e2] at this
      exact this
    · rw [hm]
      intro k
      by_cases hk : k.val < 3000
      · have p : padded far (fun j e => (tgt j e : EReal)) k = fun e => (tgt ⟨k.val, hk⟩ e : EReal) := by
          funext e; simp [padded, hk]
        rw [p, e2, EReal.coe_le_coe_iff]
        have := ha ⟨k.val, hk⟩
        rw [e1, e1, EReal.coe_le_coe_iff] at this
        linarith
      · have p : padded far (fun j e => (tgt j e : EReal)) k = fun e => (((fun _ => farR : Fin 3 → ℝ) e : ℝ) : EReal) := by
          funext e; simp only [padded, hk, dite_false, far_eq]
        rw [p, e2, EReal.coe_le_coe_iff]
        exact far_not_least M hM u (tgt a) hu (ht a)
  have e4 : m + (((u 0 : EReal) * u 0 + (u 1 : EReal) * u 1) + (u 2 : EReal) * u 2)
      = (((u 0 - tgt a 0) * (u 0 - tgt a 0) + (u 1 - tgt a 1) * (u 1 - tgt a 1) + (u 2 - tgt a 2) * (u 2 - tgt a 2) : ℝ) : EReal) := by
    rw [e3, ← EReal.coe_mul, ← EReal.coe_mul, ← EReal.coe_mul, ← EReal.coe_add, ← EReal.coe_add, ← EReal.coe_add]
    congr 1; ring
  have e5 : (0 : EReal) ≤ (((u 0 - tgt a 0) * (u 0 - tgt a 0) + (u 1 - tgt a 1) * (u 1 - tgt a 1) + (u 2 - tgt a 2) * (u 2 - tgt a 2) : ℝ) : EReal) := by
    rw [← EReal.coe_zero, EReal.coe_le_coe_iff]
    have a0 := mul_self_nonneg (u 0 - tgt a 0); have a1 := mul_self_nonneg (u 1 - tgt a 1); have a2 := mul_self_nonneg (u 2 - tgt a 2)
    linarith
  simp only [e4, max_eq_left e5, dist, Fin.sum_univ_three]
  congr 1

/-! ## Small equalities of the two programs' orders -/

/-- The kernel's order of the transformed point. -/
theorem point_eq (p : Fin 3 → EReal) (R : Fin 3 → Fin 3 → EReal) (t : Fin 3 → EReal) (e : Fin 3) :
    ((p 0 * R 0 e + p 1 * R 1 e) + p 2 * R 2 e) + t e = point p R t e := by
  simp only [point, Fin.sum_univ_three]

/-- The kernel's order of the distance. -/
theorem dist_eq (u v : Fin 3 → EReal) :
    Ideal.sqrt (((u 0 - v 0) * (u 0 - v 0) + (u 1 - v 1) * (u 1 - v 1)) + (u 2 - v 2) * (u 2 - v 2)) = dist u v := by
  simp only [dist, Fin.sum_univ_three]

/-- A sum over the padded lanes, each weighed by whether it is a point. -/
theorem sum_lanes (f : Fin 3072 → EReal) (g : Fin 3000 → EReal) (h : ∀ n : Fin 3000, f ⟨n.val, by have := n.isLt; omega⟩ = g n)
    (w : Fin 3072 → EReal) (hw : ∀ l, w l = if l.val < 3000 then 1 else 0) : ∑ l, f l * w l = ∑ n, g n := by
  have e : ∑ l : Fin (3000 + 72), f l * w l = _ := Fin.sum_univ_add _
  rw [show ∑ l, f l * w l = ∑ l : Fin (3000 + 72), f l * w l from rfl, e, Finset.sum_eq_zero (s := Finset.univ (α := Fin 72)), add_zero]
  · refine Finset.sum_congr rfl fun n _ => ?_
    rw [hw, if_pos (by simp), mul_one]
    exact h n
  · intro k _
    rw [hw, if_neg (by simp), mul_zero]

end Cert.Proof.Math

end
-- ==== Proof.HostRead.lean ====
/-
  THE KERNEL'S ARRAYS READ: what the host lines before the region leave in the four arrays the region reads, at an index,
  as the mathematics of `Math`.
-/
module

public import proofs.«01_k».proof.Proof.Gen.KernelIdeal.Frame
public import proofs.«01_k».proof.Proof.Math
public import Idealize.ShloMosaic.Lib.StableHlo.ReadAt
public import Idealize.ShloMosaic.Lib.Pointwise
public import Idealize.ShloMosaic.Lib.Pipeline.ValueKit.Tiles

@[expose] public section

set_option maxRecDepth 8192

noncomputable section

namespace Cert.Proof.Host

open Cert.KernelIdeal Cert.KernelIdeal.Gen Idealize.ShloMosaic Idealize.ShloMosaic.TcCoe Idealize.SL.Sem Idealize.ShloMosaic.StableHlo

variable (V : Valuation τ sig (Elt Ideal))

/-- Arrays read at their coordinates. -/
abbrev at1 (x : S64.Idx → EReal) (b : Fin 64) : EReal := x (ix1 b)
abbrev at2 {n : ℕ} (x : (⟨2, ![64, n]⟩ : Shape).Idx → EReal) (b : Fin 64) (e : Fin n) : EReal := x (ix2 b e)
abbrev at3 {n k : ℕ} (x : (⟨3, ![64, n, k]⟩ : Shape).Idx → EReal) (b : Fin 64) (i : Fin n) (e : Fin k) : EReal := x (ix3 b i e)

abbrev quat (b : Fin 64) (k : Fin 4) : EReal := at2 (n := 4) (V (Proc.devRef .tc main_arg0)) b k
abbrev shift (b : Fin 64) (e : Fin 3) : EReal := at2 (n := 3) (V (Proc.devRef .tc main_arg1)) b e
abbrev target (b : Fin 64) (n : Fin 3000) (e : Fin 3) : EReal := at3 (n := 3000) (k := 3) (V (Proc.devRef .tc main_arg2)) b n e
abbrev model (b : Fin 64) (n : Fin 3000) (e : Fin 3) : EReal := at3 (n := 3000) (k := 3) (V (Proc.devRef .tc main_arg3)) b n e

/-! ## The parameters -/

/-- Sixteen columns side by side. -/
def cols (x0 x1 x2 x3 x4 x5 x6 x7 x8 x9 x10 x11 x12 x13 x14 x15 : S64x1.Idx → EReal) : S64x16.Idx → EReal :=
  concatenate S64x16 1 [⟨S64x1, x0⟩, ⟨S64x1, x1⟩, ⟨S64x1, x2⟩, ⟨S64x1, x3⟩, ⟨S64x1, x4⟩, ⟨S64x1, x5⟩, ⟨S64x1, x6⟩, ⟨S64x1, x7⟩, ⟨S64x1, x8⟩, ⟨S64x1, x9⟩, ⟨S64x1, x10⟩, ⟨S64x1, x11⟩, ⟨S64x1, x12⟩, ⟨S64x1, x13⟩, ⟨S64x1, x14⟩, ⟨S64x1, x15⟩]
    concatenates_S64x1_S64x1_S64x1_S64x1_S64x1_S64x1_S64x1_S64x1_S64x1_S64x1_S64x1_S64x1_S64x1_S64x1_S64x1_S64x1_S64x16_d1

/-- The lines before the columns are put side by side, and the lines from there. -/
def before : List (HloOp τ sig (Elt Ideal)) := hostOps0_2.take 106
def rest : List (HloOp τ sig (Elt Ideal)) :=
  [ nary ![main_v77, main_v78, main_v79, main_v80, main_v81, main_v82, main_v83, main_v84, main_v85, main_v86, main_v87, main_v88, main_v89, main_v90, main_v91, main_v92]
      main_v93 (fun u => cols (u 0) (u 1) (u 2) (u 3) (u 4) (u 5) (u 6) (u 7) (u 8) (u 9) (u 10) (u 11) (u 12) (u 13) (u 14) (u 15)),
    reshape main_v93 main_v94 (rfl : (.f32 : EltTy) = .f32) shapeCasts_S64x16_S64x1x16,
    unary main_arg3 main_v95 ((transpose S64x3x3000 [0, 2, 1] · transposes_S64x3000x3_S64x3x3000_0_2_1) : (⟨S64x3000x3, .f32⟩ : BufTy).Contents (Elt Ideal) → (⟨S64x3x3000, .f32⟩ : BufTy).Contents (Elt Ideal)),
    nullary main_c_13 (constantI S_ 32 0#32) ]

theorem split : (hostOps0_2 : List (HloOp τ sig (Elt Ideal))) = before ++ rest := rfl

/-- The quaternion over the norm that the lines before left. -/
def overNorm (b : Fin 64) (k : Fin 4) : EReal := Ideal.div (quat V b k) (at2 (n := 1) (V (Proc.devRef .tc main_v0)) b 0)

theorem overNorm_eq (b : Fin 64) : overNorm (after hostOps0_1 (after hostOps0 V)) b = Math.unit (quat V b) := by
  rw [← after_append]
  funext k
  unfold overNorm hostOps0 hostOps0_1
  simp only [List.cons_append, List.nil_append]
  after_reads_at
  rfl

theorem col_v77 (b : Fin 64) : at2 (n := 1) (after before V (Proc.devRef .tc main_v77)) b 0 = Math.rot (overNorm V b) 0 0 := by
  simp only [before, hostOps0_2, List.take_succ_cons, List.take_zero]; after_reads_at; rfl
theorem col_v78 (b : Fin 64) : at2 (n := 1) (after before V (Proc.devRef .tc main_v78)) b 0 = Math.rot (overNorm V b) 0 1 := by
  simp only [before, hostOps0_2, List.take_succ_cons, List.take_zero]; after_reads_at; rfl
theorem col_v79 (b : Fin 64) : at2 (n := 1) (after before V (Proc.devRef .tc main_v79)) b 0 = Math.rot (overNorm V b) 0 2 := by
  simp only [before, hostOps0_2, List.take_succ_cons, List.take_zero]; after_reads_at; rfl
theorem col_v80 (b : Fin 64) : at2 (n := 1) (after before V (Proc.devRef .tc main_v80)) b 0 = Math.rot (overNorm V b) 1 0 := by
  simp only [before, hostOps0_2, List.take_succ_cons, List.take_zero]; after_reads_at; rfl
theorem col_v81 (b : Fin 64) : at2 (n := 1) (after before V (Proc.devRef .tc main_v81)) b 0 = Math.rot (overNorm V b) 1 1 := by
  simp only [before, hostOps0_2, List.take_succ_cons, List.take_zero]; after_reads_at; rfl
theorem col_v82 (b : Fin 64) : at2 (n := 1) (after before V (Proc.devRef .tc main_v82)) b 0 = Math.rot (overNorm V b) 1 2 := by
  simp only [before, hostOps0_2, List.take_succ_cons, List.take_zero]; after_reads_at; rfl
theorem col_v83 (b : Fin 64) : at2 (n := 1) (after before V (Proc.devRef .tc main_v83)) b 0 = Math.rot (overNorm V b) 2 0 := by
  simp only [before, hostOps0_2, List.take_succ_cons, List.take_zero]; after_reads_at; rfl
theorem col_v84 (b : Fin 64) : at2 (n := 1) (after before V (Proc.devRef .tc main_v84)) b 0 = Math.rot (overNorm V b) 2 1 := by
  simp only [before, hostOps0_2, List.take_succ_cons, List.take_zero]; after_reads_at; rfl
theorem col_v85 (b : Fin 64) : at2 (n := 1) (after before V (Proc.devRef .tc main_v85)) b 0 = Math.rot (overNorm V b) 2 2 := by
  simp only [before, hostOps0_2, List.take_succ_cons, List.take_zero]; after_reads_at; rfl
theorem col_v86 (b : Fin 64) : at2 (n := 1) (after before V (Proc.devRef .tc main_v86)) b 0 = shift V b 0 := by
  simp only [before, hostOps0_2, List.take_succ_cons, List.take_zero]; after_reads_at
theorem col_v87 (b : Fin 64) : at2 (n := 1) (after before V (Proc.devRef .tc main_v87)) b 0 = shift V b 1 := by
  simp only [before, hostOps0_2, List.take_succ_cons, List.take_zero]; after_reads_at
theorem col_v88 (b : Fin 64) : at2 (n := 1) (after before V (Proc.devRef .tc main_v88)) b 0 = shift V b 2 := by
  simp only [before, hostOps0_2, List.take_succ_cons, List.take_zero]; after_reads_at

/-- Whether the object of instance `b` is in the table. -/
theorem col_v89 (b : Fin 64) : at2 (n := 1) (after before V (Proc.devRef .tc main_v89)) b 0
    = FloatOps.uitofp (F := Ideal) .f32 (Math.inTable (fun k => (V (Proc.devRef .tc main_c) : S5.Idx → BitVec 32) (ix1 k))
        ((V (Proc.devRef .tc main_arg4) : S64x1.Idx → BitVec 32) (ix2 b 0))) := by
  simp only [before, hostOps0_2, List.take_succ_cons, List.take_zero]; after_reads_at; rfl

/-- Column `k` of sixteen columns side by side is the `k`-th of them. -/
theorem cols_at (x0 x1 x2 x3 x4 x5 x6 x7 x8 x9 x10 x11 x12 x13 x14 x15 : S64x1.Idx → EReal) (b : Fin 64) (k : Fin 16) :
    cols x0 x1 x2 x3 x4 x5 x6 x7 x8 x9 x10 x11 x12 x13 x14 x15 (ix2 b k)
    = (![x0, x1, x2, x3, x4, x5, x6, x7, x8, x9, x10, x11, x12, x13, x14, x15] : Fin 16 → S64x1.Idx → EReal) k (ix2 b 0) := by
  refine concatenate_ofFn_unit_eq (s₁ := S64x1) (t := S64x16) 1 ![x0, x1, x2, x3, x4, x5, x6, x7, x8, x9, x10, x11, x12, x13, x14, x15] _ (ix2 b k) _ rfl rfl ?_
  intro n i hn h0 hb
  have h : n = k := Fin.ext hn.symm
  subst h
  have : i = ix2 b 0 := by
    funext d
    fin_cases d
    · exact Fin.ext (hb 0 (by decide))
    · exact Fin.ext h0
  rw [this]

/-! ## The points -/

/-- The lines that transpose, pad and cut the points. -/
def points : List (HloOp τ sig (Elt Ideal)) := rest ++ hostOps0_3 ++ hostOps0_4 ++ hostOps0_5 ++ hostOps0_6

theorem zero_word : (FloatOps.sitofp (F := Ideal) .f32 (0#32) : EReal) = 0 := by
  change (((0#32 : BitVec 32).toInt : ℝ) : EReal) = 0
  simp

theorem row_major (i : Fin 24) (j : Fin 128) :
    (⟨i.val * 128 + j.val, by omega⟩ : Fin 3072) = ⟨128 * i.val + j.val, by omega⟩ :=
  Fin.ext (by simp only; omega)

/-- Column `k` of the parameters is the `k`-th of the sixteen columns. -/
theorem v94_at (b : Fin 64) (k : Fin 16) : at3 (n := 1) (k := 16) (after points V (Proc.devRef .tc main_v94)) b 0 k
    = (![V (Proc.devRef .tc main_v77), V (Proc.devRef .tc main_v78), V (Proc.devRef .tc main_v79), V (Proc.devRef .tc main_v80), V (Proc.devRef .tc main_v81), V (Proc.devRef .tc main_v82), V (Proc.devRef .tc main_v83), V (Proc.devRef .tc main_v84), V (Proc.devRef .tc main_v85), V (Proc.devRef .tc main_v86), V (Proc.devRef .tc main_v87), V (Proc.devRef .tc main_v88), V (Proc.devRef .tc main_v89), V (Proc.devRef .tc main_v90), V (Proc.devRef .tc main_v91), V (Proc.devRef .tc main_v92)] : Fin 16 → S64x1.Idx → EReal) k (ix2 b 0) := by
  rw [← cols_at]
  simp only [points, rest, List.cons_append, List.nil_append]
  after_results_simp
  try dsimp only [Matrix.cons_val]
  clean_types
  pointwise
  rfl

theorem v96_at (b : Fin 64) (d : Fin 3) (l : Fin 3072) : at3 (n := 3) (k := 3072) (after points V (Proc.devRef .tc main_v96)) b d l
    = Math.padded 0 (model V b) l d := by
  simp only [points, rest, List.cons_append, List.nil_append]
  after_reads_at
  unfold Math.padded model
  split
  · rfl
  · exact zero_word

theorem v98_at (b : Fin 64) (d : Fin 3) (l : Fin 3072) : at3 (n := 3) (k := 3072) (after points V (Proc.devRef .tc main_v98)) b d l
    = Math.padded Math.far (target V b) l d := by
  simp only [points, rest, List.cons_append, List.nil_append]
  after_reads_at
  unfold Math.padded target
  split <;> rfl

theorem v99_at (b : Fin 64) (d : Fin 3) (i : Fin 24) (j : Fin 128) : (after points V (Proc.devRef .tc main_v99) : S64x3x24x128.Idx → EReal) (ix4 b d i j)
    = Math.padded Math.far (target V b) ⟨128 * i.val + j.val, by omega⟩ d := by
  simp only [points, rest, List.cons_append, List.nil_append]
  after_reads_at
  rw [← row_major i j]
  unfold Math.padded target
  split <;> rfl

/-! ## All the lines before the region -/

/-- What all of them leave. -/
abbrev whole : Valuation τ sig (Elt Ideal) :=
  after (List.flatten [hostOps0, hostOps0_1, hostOps0_2, hostOps0_3, hostOps0_4, hostOps0_5, hostOps0_6]) V

theorem whole_eq : whole V = after points (after before (after hostOps0_1 (after hostOps0 V))) := by
  rw [← after_append, ← after_append, ← after_append]
  simp only [whole, points, split, List.flatten_cons, List.flatten_nil, List.append_assoc, List.append_nil]

/-- The lines up to the norm. -/
abbrev normed : Valuation τ sig (Elt Ideal) := after hostOps0_1 (after hostOps0 V)

theorem arg1_kept : normed V (Proc.devRef .tc main_arg1) = V (Proc.devRef .tc main_arg1) := by
  unfold normed; rw [← after_append]
  simp only [hostOps0, hostOps0_1, List.cons_append, List.nil_append]
  after_results_simp

theorem arg4_kept : normed V (Proc.devRef .tc main_arg4) = V (Proc.devRef .tc main_arg4) := by
  unfold normed; rw [← after_append]
  simp only [hostOps0, hostOps0_1, List.cons_append, List.nil_append]
  after_results_simp

theorem table_read (k : Fin 5) : (normed V (Proc.devRef .tc main_c) : S5.Idx → BitVec 32) (ix1 k) = lit0 (S5.rowMajor (ix1 k)) := by
  unfold normed; rw [← after_append]
  simp only [hostOps0, hostOps0_1, List.cons_append, List.nil_append]
  after_results_simp

theorem arg2_kept : normed V (Proc.devRef .tc main_arg2) = V (Proc.devRef .tc main_arg2) := by
  unfold normed; rw [← after_append]
  simp only [hostOps0, hostOps0_1, List.cons_append, List.nil_append]
  after_results_simp

theorem arg3_kept : normed V (Proc.devRef .tc main_arg3) = V (Proc.devRef .tc main_arg3) := by
  unfold normed; rw [← after_append]
  simp only [hostOps0, hostOps0_1, List.cons_append, List.nil_append]
  after_results_simp

theorem arg2_before : after before V (Proc.devRef .tc main_arg2) = V (Proc.devRef .tc main_arg2) := by
  simp only [before, hostOps0_2, List.take_succ_cons, List.take_zero]
  after_results_simp

theorem arg3_before : after before V (Proc.devRef .tc main_arg3) = V (Proc.devRef .tc main_arg3) := by
  simp only [before, hostOps0_2, List.take_succ_cons, List.take_zero]
  after_results_simp

theorem shift_kept (b : Fin 64) (e : Fin 3) : shift (normed V) b e = shift V b e := congrFun (arg1_kept V) (ix2 b e)

theorem target_kept (b : Fin 64) (n : Fin 3000) (e : Fin 3) : target (after before (normed V)) b n e = target V b n e :=
  congrFun ((arg2_before (normed V)).trans (arg2_kept V)) (ix3 b n e)

theorem model_kept (b : Fin 64) (n : Fin 3000) (e : Fin 3) : model (after before (normed V)) b n e = model V b n e :=
  congrFun ((arg3_before (normed V)).trans (arg3_kept V)) (ix3 b n e)

/-- Whether instance `b` has symmetry, as the kernel's host lines find it. -/
abbrev symmetric (b : Fin 64) : BitVec 1 :=
  Math.inTable (fun k => lit0 (S5.rowMajor (ix1 k))) ((V (Proc.devRef .tc main_arg4) : S64x1.Idx → BitVec 32) (ix2 b 0))

/-- The thirteen parameters that the kernel reads: the rotation, the shift, the symmetry. -/
def params (b : Fin 64) : Fin 13 → EReal :=
  ![Math.rot (Math.unit (quat V b)) 0 0, Math.rot (Math.unit (quat V b)) 0 1, Math.rot (Math.unit (quat V b)) 0 2, Math.rot (Math.unit (quat V b)) 1 0, Math.rot (Math.unit (quat V b)) 1 1, Math.rot (Math.unit (quat V b)) 1 2, Math.rot (Math.unit (quat V b)) 2 0, Math.rot (Math.unit (quat V b)) 2 1, Math.rot (Math.unit (quat V b)) 2 2,
    shift V b 0, shift V b 1, shift V b 2, FloatOps.uitofp (F := Ideal) .f32 (symmetric V b)]

set_option maxHeartbeats 1000000 in
theorem param_at (b : Fin 64) (k : Fin 13) :
    at3 (n := 1) (k := 16) (whole V (Proc.devRef .tc main_v94)) b 0 ⟨k.val, by omega⟩ = params V b k := by
  rw [whole_eq, v94_at]
  have h : overNorm (normed V) b = Math.unit (quat V b) := overNorm_eq V b
  fin_cases k
  · change at2 (n := 1) (after before (normed V) (Proc.devRef .tc main_v77)) b 0 = Math.rot (Math.unit (quat V b)) 0 0
    rw [col_v77, h]
  · change at2 (n := 1) (after before (normed V) (Proc.devRef .tc main_v78)) b 0 = Math.rot (Math.unit (quat V b)) 0 1
    rw [col_v78, h]
  · change at2 (n := 1) (after before (normed V) (Proc.devRef .tc main_v79)) b 0 = Math.rot (Math.unit (quat V b)) 0 2
    rw [col_v79, h]
  · change at2 (n := 1) (after before (normed V) (Proc.devRef .tc main_v80)) b 0 = Math.rot (Math.unit (quat V b)) 1 0
    rw [col_v80, h]
  · change at2 (n := 1) (after before (normed V) (Proc.devRef .tc main_v81)) b 0 = Math.rot (Math.unit (quat V b)) 1 1
    rw [col_v81, h]
  · change at2 (n := 1) (after before (normed V) (Proc.devRef .tc main_v82)) b 0 = Math.rot (Math.unit (quat V b)) 1 2
    rw [col_v82, h]
  · change at2 (n := 1) (after before (normed V) (Proc.devRef .tc main_v83)) b 0 = Math.rot (Math.unit (quat V b)) 2 0
    rw [col_v83, h]
  · change at2 (n := 1) (after before (normed V) (Proc.devRef .tc main_v84)) b 0 = Math.rot (Math.unit (quat V b)) 2 1
    rw [col_v84, h]
  · change at2 (n := 1) (after before (normed V) (Proc.devRef .tc main_v85)) b 0 = Math.rot (Math.unit (quat V b)) 2 2
    rw [col_v85, h]
  · change at2 (n := 1) (after before (normed V) (Proc.devRef .tc main_v86)) b 0 = shift V b 0
    rw [col_v86, shift_kept]
  · change at2 (n := 1) (after before (normed V) (Proc.devRef .tc main_v87)) b 0 = shift V b 1
    rw [col_v87, shift_kept]
  · change at2 (n := 1) (after before (normed V) (Proc.devRef .tc main_v88)) b 0 = shift V b 2
    rw [col_v88, shift_kept]
  · change at2 (n := 1) (after before (normed V) (Proc.devRef .tc main_v89)) b 0 = FloatOps.uitofp (F := Ideal) .f32 (symmetric V b)
    refine (col_v89 (normed V) b).trans (congrArg (FloatOps.uitofp (F := Ideal) .f32) (congrArg₂ Math.inTable (funext fun k => table_read V k) ?_))
    exact congrFun (arg4_kept V) (ix2 b 0)

/-- The model points by coordinate rows, zeros after them. -/
theorem model_at (b : Fin 64) (d : Fin 3) (l : Fin 3072) :
    at3 (n := 3) (k := 3072) (whole V (Proc.devRef .tc main_v96)) b d l = Math.padded 0 (model V b) l d := by
  rw [whole_eq, v96_at, show model (after before (normed V)) b = model V b from funext fun n => funext fun e => model_kept V b n e]

/-- The targets by coordinate rows, the padding after them. -/
theorem target_at (b : Fin 64) (d : Fin 3) (l : Fin 3072) :
    at3 (n := 3) (k := 3072) (whole V (Proc.devRef .tc main_v98)) b d l = Math.padded Math.far (target V b) l d := by
  rw [whole_eq, v98_at, show target (after before (normed V)) b = target V b from funext fun n => funext fun e => target_kept V b n e]

/-- The targets by planes, the padding after them. -/
theorem plane_at (b : Fin 64) (d : Fin 3) (i : Fin 24) (j : Fin 128) :
    (whole V (Proc.devRef .tc main_v99) : S64x3x24x128.Idx → EReal) (ix4 b d i j)
      = Math.padded Math.far (target V b) ⟨128 * i.val + j.val, by omega⟩ d := by
  rw [whole_eq, v99_at, show target (after before (normed V)) b = target V b from funext fun n => funext fun e => target_kept V b n e]

end Cert.Proof.Host

end
-- ==== Proof.BlockValue.lean ====
/-
  WHAT ONE BLOCK COMPUTES, at the extended reals: the transformed points, the two sums of distances and the least over
  the padded targets, as the mathematics of `Math`.
-/
module

public import proofs.«01_k».proof.Proof.Terms
public import proofs.«01_k».proof.Proof.Math
public import Idealize.ShloMosaic.PureOps.Ideal
public import Idealize.ShloMosaic.PureOps.Ideal.Laws
public import Idealize.ShloMosaic.Lib.Pointwise

@[expose] public section

noncomputable section

namespace Cert.Proof.Block

open Cert.KernelIdeal Cert.KernelIdeal.Gen Idealize.ShloMosaic

variable (x0 : Vec Ideal S1x1x16 .f32) (x1 x2 : Vec Ideal S1x3x3072 .f32) (x3 : Vec Ideal S1x3x24x128 .f32)

/-- The blocks read at their coordinates. -/
abbrev prm (k : Fin 16) : EReal := x0 (ix3 0 0 k)
abbrev pt (x : Vec Ideal S1x3x3072 .f32) (l : Fin 3072) (d : Fin 3) : EReal := x (ix3 0 d l)
abbrev lane (x : FVec Ideal S1x3072 .f32) (l : Fin 3072) : EReal := x (ix2 0 l)
abbrev cell (x : FVec Ideal S128x24 .f32) (s : Fin 128) (j : Fin 24) : EReal := x (ix2 s j)

/-- The transformed point of lane `l`. -/
def moved (l : Fin 3072) : Fin 3 → EReal :=
  Math.point (pt x1 l) ![![prm x0 0, prm x0 1, prm x0 2], ![prm x0 3, prm x0 4, prm x0 5], ![prm x0 6, prm x0 7, prm x0 8]]
    ![prm x0 9, prm x0 10, prm x0 11]

theorem par_at (k : ℕ) (hk : k < 16) (h) : par x0 k h = prm x0 ⟨k, hk⟩ := by
  unfold par
  refine congrArg x0 ?_
  funext a
  fin_cases a <;> rfl

theorem row0_at (x : Vec Ideal S1x3x3072 .f32) (l : Fin 3072) : row0 x (ix3 0 0 l) = pt x l 0 := by
  unfold row0; pointwise
theorem row1_at (x : Vec Ideal S1x3x3072 .f32) (l : Fin 3072) : row1 x (ix3 0 0 l) = pt x l 1 := by
  unfold row1; pointwise
theorem row2_at (x : Vec Ideal S1x3x3072 .f32) (l : Fin 3072) : row2 x (ix3 0 0 l) = pt x l 2 := by
  unfold row2; pointwise

theorem tx_at (l : Fin 3072) : lane (tx x0 x1) l = moved x0 x1 l 0 := by
  rw [moved, ← Math.point_eq, ← row0_at, ← row1_at, ← row2_at]
  unfold tx k0_pay48 k0_pay45 k0_pay46 k0_pay47
  rw [par_at x0 0 (by decide), par_at x0 3 (by decide), par_at x0 6 (by decide), par_at x0 9 (by decide)]
  pointwise

theorem ty_at (l : Fin 3072) : lane (ty x0 x1) l = moved x0 x1 l 1 := by
  rw [moved, ← Math.point_eq, ← row0_at, ← row1_at, ← row2_at]
  unfold ty k0_pay1 k0_pay49 k0_pay50 k0_pay45 k0_pay46 k0_pay47
  rw [par_at x0 1 (by decide), par_at x0 4 (by decide), par_at x0 7 (by decide), par_at x0 10 (by decide)]
  pointwise

theorem tz_at (l : Fin 3072) : lane (tz x0 x1) l = moved x0 x1 l 2 := by
  rw [moved, ← Math.point_eq, ← row0_at, ← row1_at, ← row2_at]
  unfold tz k0_pay2 k0_pay45 k0_pay46 k0_pay47
  rw [par_at x0 2 (by decide), par_at x0 5 (by decide), par_at x0 8 (by decide), par_at x0 11 (by decide)]
  pointwise

theorem valid_at (l : Fin 3072) : lane k0_pay44 l = if l.val < 3000 then 1 else 0 := by
  unfold k0_pay44
  pointwise
  have hl := l.isLt
  have e : IntOp.cmpi .slt (BitVec.ofNat 32 l.val) 3000#32 = if l.val < 3000 then 1#1 else 0#1 := by
    have hn : (BitVec.ofNat 32 l.val).toInt = (l.val : ℤ) := by
      rw [BitVec.toInt_eq_toNat_of_lt] <;> rw [BitVec.toNat_ofNat, Nat.mod_eq_of_lt] <;> omega
    have h3 : (3000#32 : BitVec 32).toInt = 3000 := by decide
    by_cases h : l.val < 3000
    · rw [if_pos h]; rw [IntOp.cmpi]; simp only [BitVec.slt, hn, h3]; simp [h]
    · rw [if_neg h]; rw [IntOp.cmpi]; simp only [BitVec.slt, hn, h3]; simp [h]
  rw [e]
  split
  · change (((BitVec.setWidth 32 1#1 : BitVec 32).toInt : ℝ) : EReal) = 1
    simp
  · change (((BitVec.setWidth 32 0#1 : BitVec 32).toInt : ℝ) : EReal) = 0
    simp

/-- The target of plane row `j` and lane `s`. -/
def tgt3 (j : Fin 24) (s : Fin 128) (e : Fin 3) : EReal := x3 (ix4 0 e j s)

theorem plane0_at (s : Fin 128) (j : Fin 24) : cell (k0_pay8 (plane0 x3)) s j = tgt3 x3 j s 0 := by
  unfold k0_pay8 plane0
  pointwise
  rfl
theorem plane1_at (s : Fin 128) (j : Fin 24) : cell (k0_pay9 (plane1 x3)) s j = tgt3 x3 j s 1 := by
  unfold k0_pay9 plane1
  pointwise
  rfl
theorem plane2_at (s : Fin 128) (j : Fin 24) : cell (k0_pay10 (plane2 x3)) s j = tgt3 x3 j s 2 := by
  unfold k0_pay10 plane2
  pointwise
  rfl

theorem squares_at (s : Fin 128) (j : Fin 24) : cell (k0_pay11 (plane0 x3) (plane1 x3) (plane2 x3)) s j
    = (tgt3 x3 j s 0 * tgt3 x3 j s 0 + tgt3 x3 j s 1 * tgt3 x3 j s 1) + tgt3 x3 j s 2 * tgt3 x3 j s 2 := by
  rw [← plane0_at, ← plane1_at, ← plane2_at]
  unfold k0_pay11
  pointwise

theorem twice0_at (l : Fin 3072) : lane (k0_pay5 (tx x0 x1)) l = Math.mtwo * moved x0 x1 l 0 := by
  rw [← tx_at]; unfold k0_pay5; pointwise
theorem twice1_at (l : Fin 3072) : lane (k0_pay6 (ty x0 x1)) l = Math.mtwo * moved x0 x1 l 1 := by
  rw [← ty_at]; unfold k0_pay6; pointwise
theorem twice2_at (l : Fin 3072) : lane (k0_pay7 (tz x0 x1)) l = Math.mtwo * moved x0 x1 l 2 := by
  rw [← tz_at]; unfold k0_pay7; pointwise

/-- Step `j` is the least, over the 128 targets of plane row `j`, of the part of the squared distance that depends on the target. -/
theorem step_at (j : Fin 24) (l : Fin 3072) : lane (step x0 x1 x3 j) l
    = Finset.univ.fold min (Ideal.ofBits .f32 0x7F800000#32) fun s => Math.partial2 (moved x0 x1 l) (tgt3 x3 j s) := by
  have e : (fun s => Math.partial2 (moved x0 x1 l) (tgt3 x3 j s)) = fun s =>
      (cell (k0_pay11 (plane0 x3) (plane1 x3) (plane2 x3)) s j + cell (k0_pay8 (plane0 x3)) s j * lane (k0_pay5 (tx x0 x1)) l)
        + (cell (k0_pay9 (plane1 x3)) s j * lane (k0_pay6 (ty x0 x1)) l + cell (k0_pay10 (plane2 x3)) s j * lane (k0_pay7 (tz x0 x1)) l) := by
    funext s
    rw [squares_at, plane0_at, plane1_at, plane2_at, twice0_at, twice1_at, twice2_at, Math.partial2]
  rw [e]
  unfold step stepOf
  pointwise

theorem inf_eq : Ideal.ofBits .f32 0x7F800000#32 = (⊤ : EReal) := by
  simp [Ideal.ofBits, Ideal.ieee]

theorem le_step_iff (j : Fin 24) (l : Fin 3072) (x : EReal) :
    x ≤ lane (step x0 x1 x3 j) l ↔ ∀ s, x ≤ Math.partial2 (moved x0 x1 l) (tgt3 x3 j s) := by
  rw [step_at, Finset.le_fold_min, inf_eq]
  simp

theorem le_least_iff (js : List (Fin 24)) (l : Fin 3072) (x : EReal) :
    x ≤ lane (least x0 x1 x3 js) l ↔ ∀ j ∈ js, x ≤ lane (step x0 x1 x3 j) l := by
  have key : ∀ (js : List (Fin 24)) (a : FVec Ideal S1x3072 .f32),
      x ≤ lane (js.foldl (fun a j => minimumf a (step x0 x1 x3 j)) a) l ↔ x ≤ lane a l ∧ ∀ j ∈ js, x ≤ lane (step x0 x1 x3 j) l := by
    intro js
    induction js with
    | nil => simp
    | cons j js ih =>
      intro a
      rw [List.foldl_cons, ih, List.forall_mem_cons, ← and_assoc]
      refine and_congr_left fun _ => ?_
      exact le_min_iff
  unfold least
  rw [key]
  refine and_iff_right ?_
  change x ≤ Ideal.ofBits .f32 0x7F800000#32
  rw [inf_eq]; exact le_top

/-- The least over all twenty-four steps. -/
def leastAll (l : Fin 3072) : EReal :=
  min (lane (least x0 x1 x3 [0, 1, 2, 3, 4, 5, 6, 7, 8, 9, 10, 11, 12, 13, 14, 15, 16, 17, 18, 19, 20, 21, 22]) l) (lane (step x0 x1 x3 23) l)

theorem le_leastAll_iff (l : Fin 3072) (x : EReal) :
    x ≤ leastAll x0 x1 x3 l ↔ ∀ j s, x ≤ Math.partial2 (moved x0 x1 l) (tgt3 x3 j s) := by
  unfold leastAll
  rw [le_min_iff, le_least_iff]
  simp only [le_step_iff]
  constructor
  · rintro ⟨h, h'⟩ j
    by_cases hj : j = 23
    · subst hj; exact h'
    · exact h j (by revert j; decide)
  · exact fun h => ⟨fun j _ => h j, h 23⟩

/-- The branch without symmetry. -/
theorem plain_at : plainOut x0 x1 x2 (ix3 0 0 0) = ∑ l, Math.dist (moved x0 x1 l) (pt x2 l) * lane k0_pay44 l := by
  have e : (fun l => Math.dist (moved x0 x1 l) (pt x2 l) * lane k0_pay44 l) = fun l =>
      Ideal.sqrt (((lane (tx x0 x1) l - row0 x2 (ix3 0 0 l)) * (lane (tx x0 x1) l - row0 x2 (ix3 0 0 l))
        + (lane (ty x0 x1) l - row1 x2 (ix3 0 0 l)) * (lane (ty x0 x1) l - row1 x2 (ix3 0 0 l)))
        + (lane (tz x0 x1) l - row2 x2 (ix3 0 0 l)) * (lane (tz x0 x1) l - row2 x2 (ix3 0 0 l))) * lane k0_pay44 l := by
    funext l
    rw [← Math.dist_eq, tx_at, ty_at, tz_at, row0_at, row1_at, row2_at]
  rw [e]
  unfold plainOut k0_pay4
  pointwise
  rfl

/-- The branch with symmetry. -/
theorem sym_at : symOut x0 x1 x3 (ix3 0 0 0)
    = ∑ l, Ideal.sqrt (max (leastAll x0 x1 x3 l + ((moved x0 x1 l 0 * moved x0 x1 l 0 + moved x0 x1 l 1 * moved x0 x1 l 1)
        + moved x0 x1 l 2 * moved x0 x1 l 2)) 0) * lane k0_pay44 l := by
  have e : (fun l => Ideal.sqrt (max (leastAll x0 x1 x3 l + ((moved x0 x1 l 0 * moved x0 x1 l 0 + moved x0 x1 l 1 * moved x0 x1 l 1)
        + moved x0 x1 l 2 * moved x0 x1 l 2)) 0) * lane k0_pay44 l) = fun l =>
      Ideal.sqrt (max (leastAll x0 x1 x3 l + ((lane (tx x0 x1) l * lane (tx x0 x1) l + lane (ty x0 x1) l * lane (ty x0 x1) l)
        + lane (tz x0 x1) l * lane (tz x0 x1) l)) 0) * lane k0_pay44 l := by
    funext l
    rw [tx_at, ty_at, tz_at]
  rw [e]
  unfold symOut leastAll
  generalize least x0 x1 x3 _ = a
  unfold k0_pay3
  pointwise
  rfl

end Cert.Proof.Block

end
-- ==== Proof.KernelValue.lean ====
/-
  THE KERNEL'S RESULT: the region's blocks at coordinates, the array of sums after the run, and the mean that the last
  host lines take, as the mathematics of `Math`.
-/
module

public import proofs.«01_k».proof.Proof.IdealBody
public import proofs.«01_k».proof.Proof.HostRead
public import proofs.«01_k».proof.Proof.BlockValue
public import Idealize.ShloMosaic.Lib.Pipeline.ValueKit.Geometry
public import Idealize.ShloMosaic.Lib.Pipeline.ValueKit.Acc
public import Idealize.ShloMosaic.Lib.StableHlo.ReadAt
public import Idealize.ShloMosaic.Lib.Pointwise

@[expose] public section
noncomputable section
namespace Cert.Proof.Run
open Cert.KernelIdeal Cert.KernelIdeal.Gen Idealize.ShloMosaic Idealize.ShloMosaic.TcCoe Idealize.ShloMosaic.StableHlo
open Cert.Proof.IdealBody

variable (m : (ℓ : Loc nD τ sig) → Buf (Elt Ideal) ℓ)

/-! ## The blocks -/

/-- The contents at the launch. -/
abbrev start (c : Dev nD) : Valuation τ sig (Elt Ideal) := fun b => m (c, b)

theorem index0 : ∀ t : Fin cfg0.N, win0_0.index t = ![t.val, 0, 0] := by decide +kernel
theorem index1 : ∀ t : Fin cfg0.N, win0_1.index t = ![t.val, 0, 0] := by decide +kernel
theorem index2 : ∀ t : Fin cfg0.N, win0_2.index t = ![t.val, 0, 0] := by decide +kernel
theorem index3 : ∀ t : Fin cfg0.N, win0_3.index t = ![t.val, 0, 0, 0] := by decide +kernel
theorem index4 : ∀ t : Fin cfg0.N, win0_4.index t = ![t.val, 0, 0] := by decide +kernel

theorem block0 (c : Dev nD) (t : Fin cfg0.N) (k : Fin 16) :
    Block.prm (iblk m c 0 t) k = Host.at3 (n := 1) (k := 16) (V m c main_v94) t 0 k := by
  change iblk m c 0 t (ix3 (0 : Fin 1) (0 : Fin 1) k) = V m c main_v94 (ix3 (t : Fin 64) 0 k)
  blk_simp [iblk]
  refine congrArg (V m c main_v94) ?_
  blk_ext [index0]
theorem block1 (c : Dev nD) (t : Fin cfg0.N) (d : Fin 3) (l : Fin 3072) :
    Block.pt (iblk m c 1 t) l d = Host.at3 (n := 3) (k := 3072) (V m c main_v96) t d l := by
  change iblk m c 1 t (ix3 (0 : Fin 1) d l) = V m c main_v96 (ix3 (t : Fin 64) d l)
  blk_simp [iblk]
  refine congrArg (V m c main_v96) ?_
  blk_ext [index1]
theorem block2 (c : Dev nD) (t : Fin cfg0.N) (d : Fin 3) (l : Fin 3072) :
    Block.pt (iblk m c 2 t) l d = Host.at3 (n := 3) (k := 3072) (V m c main_v98) t d l := by
  change iblk m c 2 t (ix3 (0 : Fin 1) d l) = V m c main_v98 (ix3 (t : Fin 64) d l)
  blk_simp [iblk]
  refine congrArg (V m c main_v98) ?_
  blk_ext [index2]
theorem block3 (c : Dev nD) (t : Fin cfg0.N) (d : Fin 3) (i : Fin 24) (j : Fin 128) :
    Block.tgt3 (iblk m c 3 t) i j d = (V m c main_v99 : S64x3x24x128.Idx → EReal) (ix4 (t : Fin 64) d i j) := by
  change iblk m c 3 t (ix4 (0 : Fin 1) d i j) = V m c main_v99 (ix4 (t : Fin 64) d i j)
  blk_simp [iblk]
  refine congrArg (V m c main_v99) ?_
  blk_ext [index3]

/-- A parameter of instance `t` that the kernel reads. -/
theorem prm_eq (c : Dev nD) (t : Fin cfg0.N) (k : Fin 13) :
    Block.prm (iblk m c 0 t) ⟨k.val, by omega⟩ = Host.params (start m c) t k := (block0 m c t _).trans (Host.param_at (start m c) t k)

/-- The model's points of instance `t`, with zeros after them. -/
theorem model_eq (c : Dev nD) (t : Fin cfg0.N) (l : Fin 3072) : Block.pt (iblk m c 1 t) l = Math.padded 0 (Host.model (start m c) t) l :=
  funext fun d => (block1 m c t d l).trans (Host.model_at (start m c) t d l)

/-- The targets of instance `t`, with the padding after them. -/
theorem target_eq (c : Dev nD) (t : Fin cfg0.N) (l : Fin 3072) : Block.pt (iblk m c 2 t) l = Math.padded Math.far (Host.target (start m c) t) l :=
  funext fun d => (block2 m c t d l).trans (Host.target_at (start m c) t d l)

theorem plane_eq (c : Dev nD) (t : Fin cfg0.N) (j : Fin 24) (s : Fin 128) :
    Block.tgt3 (iblk m c 3 t) j s = Math.padded Math.far (Host.target (start m c) t) ⟨128 * j.val + s.val, by omega⟩ :=
  funext fun d => (block3 m c t d j s).trans (Host.plane_at (start m c) t d j s)

/-- Point `n` of instance `b`, turned and moved. -/
def moved (c : Dev nD) (b : Fin 64) (n : Fin 3000) : Fin 3 → EReal :=
  Math.point (Host.model (start m c) b n) (Math.rot (Math.unit (Host.quat (start m c) b))) (Host.shift (start m c) b)

theorem padded_lt (z : EReal) (f : Fin 3000 → Fin 3 → EReal) (n : Fin 3000) : Math.padded z f ⟨n.val, by have := n.isLt; omega⟩ = f n := by
  funext e
  unfold Math.padded
  rw [dif_pos n.isLt]

set_option maxHeartbeats 2000000 in
theorem moved_eq (c : Dev nD) (t : Fin cfg0.N) (n : Fin 3000) :
    Block.moved (iblk m c 0 t) (iblk m c 1 t) ⟨n.val, by have := n.isLt; omega⟩ = moved m c t n := by
  unfold Block.moved moved
  rw [model_eq, padded_lt]
  have p : ∀ (k : Fin 13), Block.prm (iblk m c 0 t) ⟨k.val, by omega⟩ = Host.params (start m c) t k := prm_eq m c t
  refine congrArg₂ (Math.point (Host.model (start m c) t n)) ?_ ?_
  · funext d e
    fin_cases d <;> fin_cases e
    · exact p 0
    · exact p 1
    · exact p 2
    · exact p 3
    · exact p 4
    · exact p 5
    · exact p 6
    · exact p 7
    · exact p 8
  · funext e
    fin_cases e
    · exact p 9
    · exact p 10
    · exact p 11

/-! ## The array of sums and the mean -/

/-- What instance `b`'s block writes. -/
def result (c : Dev nD) (b : Fin cfg0.N) : EReal :=
  Block.out (iblk m c 0 b) (iblk m c 1 b) (iblk m c 2 b) (iblk m c 3 b) (ix3 (0 : Fin 1) (0 : Fin 1) (0 : Fin 1))

theorem final (c : Dev nD) : (dats m 0 c).arrAt 4 cfg0.N = fun (i : S64x1x1.Idx) => result m c (i 0) := by
  refine (dats m 0 c).arrAt_eq_of_covers 4 _ (by decide +kernel) fun t hf y => ?_
  blk_simp
  rw [after0_4, outAt]
  frame_out
  have hy : y = ix3 (0 : Fin 1) (0 : Fin 1) (0 : Fin 1) := by
    funext a; fin_cases a <;> exact Subsingleton.elim (α := Fin 1) _ _
  have ht : (((View.whole main_v100).slice (win0_4.rect t)).emb y 0 : Fin 64) = t := by
    apply Fin.ext
    blk_simp [index4]
  rw [ht, hy]
  rfl

/-- The last host lines divide by the number of points. -/
theorem tail (U : Valuation τ sig (Elt Ideal)) (b : Fin 64) : Host.at1 (after hostOps1 U (Proc.devRef .tc main_v103)) b
    = Ideal.div (Host.at3 (n := 1) (k := 1) (U (Proc.devRef .tc main_v100)) b 0 0) Math.count := by
  simp only [hostOps1]
  after_reads_at

theorem v103_eq (c : Dev nD) (b : Fin 64) :
    Host.at1 (Pipeline.afterTail₀ cfgs (dats m) 0 (V0 m) [hostOps1] c main_v103) b = Ideal.div (result m c b) Math.count := by
  unfold Pipeline.afterTail₀
  rw [List.flatten_cons, List.flatten_nil, List.append_nil, tail]
  refine congrArg (Ideal.div · Math.count) ?_
  have h : _ = (dats m 0 c).arrAt 4 cfg0.N := Pipeline.withArrays_arr spec0 (by decide) c (V0 m c) (fun w => (dats m 0 c).arrAt w cfg0.N) 4
  exact (congrFun (h.trans (final m c)) (ix3 (b : Fin 64) (0 : Fin 1) (0 : Fin 1)))

end Cert.Proof.Run

end
-- ==== Proof.PreFacts.lean ====
/-
  The shape relations the precondition's program states.
-/
module

public import proofs.«01_k».proof.Pre_moderate
public import Idealize.ShloMosaic.Lib.Decide

@[expose] public section

namespace Cert.Pre_moderate.Hand

open Idealize.ShloMosaic

instance facts : Cert.Pre_moderate.Facts where
  shapeCasts_S64x1_S64 := by decide
  bcast_S64_S64x1_0 := by decide
  bcast_S5_S1x5_1 := by decide
  bcast_S64x1_S64x5_0_1 := by decide
  bcast_S1x5_S64x5_0_1 := by decide
  reducesTo_S64x5_S64_d1 := by decide
  h_S_ := by decide
  reducesTo_S64x4_S64_d1 := by decide
  bcast_S_S64 := by decide
  bcast_S_S64x3 := by decide
  reducesTo_S64x3_S64_d1 := by decide
  bcast_S_S64x3000x3 := by decide
  reducesTo_S64x3000x3_S64_d1_2 := by decide
  reducesTo_S64_S_d0 := by decide

end Cert.Pre_moderate.Hand
-- ==== Proof.Moderate.lean ====
/-
  WHAT THE PRECONDITION SAYS of one instance, and the nearest target under it. `moderate` of the statement, read at an index:
  the object plain, or the quaternion not zero and the shift, the targets and the model's points bounded.
-/
module

public import proofs.«01_k».proof.Proof.PreFacts
public import proofs.«01_k».proof.Proof.Math
public import Idealize.ShloMosaic.Lib.Pointwise

@[expose] public section

noncomputable section

namespace Cert.Proof.Math

open Idealize.ShloMosaic

/-- The precondition of one instance whose object is symmetric. -/
structure Moderate (q : Fin 4 → EReal) (t : Fin 3 → EReal) (tgt model : Fin 3000 → Fin 3 → EReal) : Prop where
  nonzero : ∃ k, 0 < max (q k) (-q k)
  shift : ∀ e, max (t e) (-t e) ≤ bound
  target : ∀ n e, max (tgt n e) (-tgt n e) ≤ bound
  model : ∀ n e, max (model n e) (-model n e) ≤ bound

/-- Under the precondition the kernel's distance to the nearest target of a point is the distance to any target at which
    the reference's expanded squared distance is least. -/
theorem nearest_of_moderate {q : Fin 4 → EReal} {t : Fin 3 → EReal} {tgt model : Fin 3000 → Fin 3 → EReal} (h : Moderate q t tgt model)
    (n a : Fin 3000) (U : Fin 3 → EReal) (hU : U = point (model n) (rot (unit q)) t)
    (ha : ∀ j, expanded U (tgt a) ≤ expanded U (tgt j)) (least : EReal) (hm : ∀ x, x ≤ least ↔ ∀ k, x ≤ partial2 U (padded far tgt k)) :
    Ideal.sqrt (max (least + ((U 0 * U 0 + U 1 * U 1) + U 2 * U 2)) 0) = dist U (tgt a) := by
  obtain ⟨M, hM, _, hM1⟩ := bound_eq
  choose t' ht' using fun e => exists_real M (hM ▸ h.shift e)
  choose g hg using fun j e => exists_real M (hM ▸ h.target j e)
  choose p hp using fun j e => exists_real M (hM ▸ h.model j e)
  obtain ⟨w, hw, hw1⟩ := unit_bounded q h.nonzero
  obtain ⟨R, hR, hR5⟩ := rot_real w hw1
  obtain ⟨u, hu, hu16⟩ := point_real M (p n) R t' (fun d => (hp n d).2) hR5 (fun e => (ht' e).2)
  refine nearest M hM1 u g hu16 (fun j e => (hg j e).2) U ?_ tgt (funext fun j => funext fun e => (hg j e).1) a ha least hm
  rw [hU, hw, show t = fun e => (t' e : EReal) from funext fun e => (ht' e).1,
    show model n = fun d => (p n d : EReal) from funext fun d => (hp n d).1,
    show rot (fun k => (w k : EReal)) = fun d e => (R d e : EReal) from funext fun d => funext fun e => hR d e]
  exact hu

end Cert.Proof.Math

namespace Cert.Pre_moderate.Hand

open Idealize.ShloMosaic Cert.Proof

theorem all_ones {ι : Type} [Fintype ι] (f : ι → BitVec 1) (h : Finset.univ.fold IntOp.andi 1#1 f = 1#1) (i : ι) : f i = 1#1 := by
  have hr : ∀ {x y z : BitVec 1}, IntOp.andi y z = 1#1 ↔ y = 1#1 ∧ z = 1#1 := by decide
  exact ((Finset.fold_op_rel_iff_and (r := fun _ w => w = 1#1) (c := 1#1) (fun {x y z} => hr (x := x))).1 h).2 i (Finset.mem_univ i)

theorem of_bit {p : Prop} [Decidable p] (h : BitVec.ofBool (decide p) = 1#1) : p := by
  by_contra hp
  rw [decide_eq_false hp] at h
  exact absurd h (by decide)

theorem both {x y : BitVec 1} (h : IntOp.andi x y = 1#1) : x = 1#1 ∧ y = 1#1 := by
  revert x y; decide

theorem neg_inf_word : Ideal.ofBits .f32 0xFF800000#32 = (⊥ : EReal) := by
  simp [Ideal.ofBits, Ideal.ieee]

theorem either {x y : BitVec 1} (h : IntOp.ori x y = 1#1) : x = 1#1 ∨ y = 1#1 := by
  revert x y; decide

/-- An index that differs from every entry of a table is not in it. -/
theorem not_in (table : Fin 5 → BitVec 32) (i : BitVec 32) (h : ∀ k, IntOp.cmpi .ne i (table k) = 1#1) : Math.inTable table i = 0#1 := by
  have e : (fun k => IntOp.cmpi .eq i (table k)) = fun _ => 0#1 := by
    funext k
    have hk : i ≠ table k := fun e => by
      have := h k
      rw [e] at this
      simp [IntOp.cmpi] at this
    exact congrArg BitVec.ofBool (beq_eq_false_iff_ne.2 hk)
  rw [Math.inTable, e]
  decide

/-- The precondition's program, read at an instance. -/
theorem moderate_of (a0 : FVec Ideal S64x4 .f32) (a1 : FVec Ideal S64x3 .f32) (a2 a3 : FVec Ideal S64x3000x3 .f32) (a4 : IVec S64x1 32)
    (h : fn a0 a1 a2 a3 a4 = fun _ => 1#1) (b : Fin 64) :
    Math.inTable (fun k => lit0 (S5.rowMajor (ix1 k))) (a4 (ix2 b 0)) = 0#1
      ∨ Math.Moderate (fun k => a0 (ix2 b k)) (fun e => a1 (ix2 b e)) (fun n e => a2 (ix3 b n e)) (fun n e => a3 (ix3 b n e)) := by
  have h0 := congrFun h ix0
  revert h0
  unfold fn fn_part1
  pointwise
  intro h0
  obtain hp | h0 := either (all_ones _ h0 b)
  · exact .inl (not_in _ _ fun k => all_ones _ hp k)
  right
  obtain ⟨h0, h3⟩ := both h0
  obtain ⟨h0, h2⟩ := both h0
  obtain ⟨h0, h1⟩ := both h0
  refine ⟨?_, fun e => ?_, fun n e => ?_, fun n e => ?_⟩
  · have := of_bit h0
    rw [Finset.lt_fold_max, neg_inf_word] at this
    obtain this | ⟨k, _, hk⟩ := this
    · exact absurd this (not_lt_bot)
    · exact ⟨k, hk⟩
  · exact of_bit (all_ones _ h1 e)
  · exact of_bit (all_ones _ h2 (n, e))
  · exact of_bit (all_ones _ h3 (n, e))

end Cert.Pre_moderate.Hand

end
-- ==== Proof.Value.lean ====
/-
  THE TWO SUMS ARE ONE: what the kernel's block writes is, on either branch, the reference's sum of distances.
-/
module

public import proofs.«01_k».proof.Proof.KernelValue
public import proofs.«01_k».proof.Proof.Moderate

@[expose] public section

noncomputable section

namespace Cert.Proof.Run

open Cert.KernelIdeal Cert.KernelIdeal.Gen Idealize.ShloMosaic Idealize.ShloMosaic.TcCoe
open Cert.Proof.IdealBody

variable (m : (ℓ : Loc nD τ sig) → Buf (Elt Ideal) ℓ)

theorem half_eq : Ideal.ofBits .f32 0x3F000000#32 = ((1 / 2 : ℝ) : EReal) := by
  simp [Ideal.ofBits, Ideal.ieee, -EReal.coe_mul]; norm_num

theorem bit_cases (s : BitVec 1) : s = 0#1 ∨ s = 1#1 := by revert s; decide

/-- The mask parameter is at most a half exactly where the object is not in the table. -/
theorem isPlain_iff (c : Dev nD) (b : Fin cfg0.N) : isPlain (iblk m c 0 b) ↔ Host.symmetric (start m c) b = 0#1 := by
  unfold isPlain
  rw [Block.par_at _ 12 (by decide),
    show Block.prm (iblk m c 0 b) ⟨12, by decide⟩ = FloatOps.uitofp (F := Ideal) .f32 (Host.symmetric (start m c) b) from prm_eq m c b 12]
  generalize Host.symmetric (start m c) b = s
  rw [Ideal.scalar_cmpf_def]
  rcases bit_cases s with rfl | rfl
  · have p : (((0#1 : BitVec 1).toNat : ℝ) : EReal) ≤ Ideal.ofBits .f32 0x3F000000#32 := by
      rw [half_eq, EReal.coe_le_coe_iff]; norm_num
    have h : Ideal.cmp .ole (FloatOps.uitofp (F := Ideal) .f32 (0#1)) (Scalar.ofBits (F := Ideal) .f32 0x3F000000#32) = 1#1 :=
      congrArg BitVec.ofBool (decide_eq_true p)
    rw [h]; decide
  · have p : ¬ (((1#1 : BitVec 1).toNat : ℝ) : EReal) ≤ Ideal.ofBits .f32 0x3F000000#32 := by
      rw [half_eq, EReal.coe_le_coe_iff]; norm_num
    have h : Ideal.cmp .ole (FloatOps.uitofp (F := Ideal) .f32 (1#1)) (Scalar.ofBits (F := Ideal) .f32 0x3F000000#32) = 0#1 :=
      congrArg BitVec.ofBool (decide_eq_false p)
    rw [h]; decide

/-- The least over the planes is the least over the padded targets. -/
theorem least_iff (c : Dev nD) (b : Fin cfg0.N) (n : Fin 3000) (x : EReal) :
    x ≤ Block.leastAll (iblk m c 0 b) (iblk m c 1 b) (iblk m c 3 b) ⟨n.val, by have := n.isLt; omega⟩
      ↔ ∀ k, x ≤ Math.partial2 (moved m c b n) (Math.padded Math.far (Host.target (start m c) b) k) := by
  rw [Block.le_leastAll_iff, moved_eq]
  constructor
  · intro h k
    have hk := k.isLt
    have := h ⟨k.val / 128, by omega⟩ ⟨k.val % 128, by omega⟩
    rw [plane_eq] at this
    rwa [show (⟨128 * (k.val / 128) + k.val % 128, by omega⟩ : Fin 3072) = k from Fin.ext (Nat.div_add_mod k.val 128)] at this
  · intro h j s
    rw [plane_eq]
    exact h _

/-- What instance `b`'s block writes is the sum of the distances of its moved points to their targets, each to itself or,
    where the object is symmetric, to a nearest one. -/
theorem result_eq (c : Dev nD) (b : Fin cfg0.N)
    (hmod : Host.symmetric (start m c) b = 0#1 ∨ Math.Moderate (Host.quat (start m c) b) (Host.shift (start m c) b) (Host.target (start m c) b) (Host.model (start m c) b))
    (a : Fin 3000 → Fin 3000)
    (ha : ∀ n j, Math.expanded (moved m c b n) (Host.target (start m c) b (a n)) ≤ Math.expanded (moved m c b n) (Host.target (start m c) b j)) :
    result m c b = ∑ n, Math.dist (moved m c b n) (fun e => Scalar.select (Host.symmetric (start m c) b)
      (Host.target (start m c) b (a n) e) (Host.target (start m c) b n e)) := by
  unfold result Block.out
  by_cases h : isPlain (iblk m c 0 b)
  · rw [if_pos h, (isPlain_iff m c b).1 h, Block.plain_at]
    refine Math.sum_lanes _ _ (fun n => ?_) _ Block.valid_at
    rw [moved_eq, target_eq, padded_lt]
    rfl
  · have hs : Host.symmetric (start m c) b = 1#1 := (bit_cases _).resolve_left fun e => h ((isPlain_iff m c b).2 e)
    have hok := hmod.resolve_left fun e => h ((isPlain_iff m c b).2 e)
    rw [if_neg h, hs, Block.sym_at]
    refine Math.sum_lanes _ _ (fun n => ?_) _ Block.valid_at
    rw [moved_eq]
    exact Math.nearest_of_moderate hok n (a n) (moved m c b n) rfl (ha n) _ (least_iff m c b n)

end Cert.Proof.Run

end
-- ==== Proof.RefRead.lean ====
/-
  THE REFERENCE'S BUFFERS READ: what each stage of its lines leaves, at an index, as the mathematics of `Math`.
-/
module

public import proofs.«01_k».proof.Proof.RefRun
public import proofs.«01_k».proof.Proof.Math
public import Idealize.ShloMosaic.Lib.StableHlo.ReadAt
public import Idealize.ShloMosaic.Lib.Pointwise

@[expose] public section

set_option maxRecDepth 8192

noncomputable section

namespace Cert.Proof.Ref

open Cert.ReferenceIdeal Cert.ReferenceIdeal.Gen Idealize.ShloMosaic Idealize.ShloMosaic.TcCoe Idealize.SL.Sem Idealize.ShloMosaic.StableHlo

variable (V : Valuation τ sig (Elt Ideal))

/-- Arrays read at their coordinates. -/
abbrev at1 (x : S64.Idx → EReal) (b : Fin 64) : EReal := x (ix1 b)
abbrev at2 {n : ℕ} (x : (⟨2, ![64, n]⟩ : Shape).Idx → EReal) (b : Fin 64) (e : Fin n) : EReal := x (ix2 b e)
abbrev at3 {n k : ℕ} (x : (⟨3, ![64, n, k]⟩ : Shape).Idx → EReal) (b : Fin 64) (i : Fin n) (e : Fin k) : EReal := x (ix3 b i e)

/-- The quaternion of instance `b`, its translation, its targets and its model points. -/
abbrev quat (b : Fin 64) (k : Fin 4) : EReal := at2 (n := 4) (V (Proc.devRef .tc main_arg0)) b k
abbrev shift (b : Fin 64) (e : Fin 3) : EReal := at2 (n := 3) (V (Proc.devRef .tc main_arg1)) b e
abbrev target (b : Fin 64) (n : Fin 3000) (e : Fin 3) : EReal := at3 (n := 3000) (k := 3) (V (Proc.devRef .tc main_arg2)) b n e
abbrev model (b : Fin 64) (n : Fin 3000) (e : Fin 3) : EReal := at3 (n := 3000) (k := 3) (V (Proc.devRef .tc main_arg3)) b n e

/-! ## The rotation -/

/-- The four coordinates after the first lines: the quaternion over its norm. -/
theorem q_v4 (b : Fin 64) : at1 (after opsQ V (Proc.devRef .tc main_v4)) b = Math.unit (quat V b) 0 := by
  unfold opsQ; after_reads_at; rfl
theorem q_v6 (b : Fin 64) : at1 (after opsQ V (Proc.devRef .tc main_v6)) b = Math.unit (quat V b) 1 := by
  unfold opsQ; after_reads_at; rfl
theorem q_v8 (b : Fin 64) : at1 (after opsQ V (Proc.devRef .tc main_v8)) b = Math.unit (quat V b) 2 := by
  unfold opsQ; after_reads_at; rfl
theorem q_v10 (b : Fin 64) : at1 (after opsQ V (Proc.devRef .tc main_v10)) b = Math.unit (quat V b) 3 := by
  unfold opsQ; after_reads_at; rfl

/-- The four coordinates as the rotation's lines find them. -/
def coords (b : Fin 64) : Fin 4 → EReal :=
  Math.quad (at1 (V (Proc.devRef .tc main_v4)) b) (at1 (V (Proc.devRef .tc main_v6)) b) (at1 (V (Proc.devRef .tc main_v8)) b)
    (at1 (V (Proc.devRef .tc main_v10)) b)

theorem coords_q (b : Fin 64) : coords (after opsQ V) b = Math.unit (quat V b) := by
  rw [coords, q_v4, q_v6, q_v8, q_v10]
  funext k
  fin_cases k <;> rfl

theorem r_v17 (b : Fin 64) : at1 (after opsR0 V (Proc.devRef .tc main_v17)) b = Math.rot (coords V b) 0 0 := by
  unfold opsR0; after_reads_at; rfl
theorem r_v22 (b : Fin 64) : at1 (after opsR0 V (Proc.devRef .tc main_v22)) b = Math.rot (coords V b) 0 1 := by
  unfold opsR0; after_reads_at; rfl
theorem r_v27 (b : Fin 64) : at1 (after opsR0 V (Proc.devRef .tc main_v27)) b = Math.rot (coords V b) 0 2 := by
  unfold opsR0; after_reads_at; rfl
theorem r_v32 (b : Fin 64) : at1 (after opsR0 V (Proc.devRef .tc main_v32)) b = Math.rot (coords V b) 1 0 := by
  unfold opsR0; after_reads_at; rfl
theorem r_v39 (b : Fin 64) : at1 (after opsR0 V (Proc.devRef .tc main_v39)) b = Math.rot (coords V b) 1 1 := by
  unfold opsR0; after_reads_at; rfl
theorem r_v44 (b : Fin 64) : at1 (after opsR0 V (Proc.devRef .tc main_v44)) b = Math.rot (coords V b) 1 2 := by
  unfold opsR0; after_reads_at; rfl
theorem r_v49 (b : Fin 64) : at1 (after opsR0 V (Proc.devRef .tc main_v49)) b = Math.rot (coords V b) 2 0 := by
  unfold opsR0; after_reads_at; rfl
theorem r_coords (b : Fin 64) : coords (after opsR0 V) b = coords V b := by
  simp only [coords, opsR0_keep V main_v4 (by decide), opsR0_keep V main_v6 (by decide), opsR0_keep V main_v8 (by decide),
    opsR0_keep V main_v10 (by decide)]

/-- The nine entries side by side, the last two still as expressions. -/
def entries (b : Fin 64) (d e : Fin 3) : EReal :=
  (![![at1 (V (Proc.devRef .tc main_v17)) b, at1 (V (Proc.devRef .tc main_v22)) b, at1 (V (Proc.devRef .tc main_v27)) b],
     ![at1 (V (Proc.devRef .tc main_v32)) b, at1 (V (Proc.devRef .tc main_v39)) b, at1 (V (Proc.devRef .tc main_v44)) b],
     ![at1 (V (Proc.devRef .tc main_v49)) b, Math.rot (coords V b) 2 1, Math.rot (coords V b) 2 2]] : Fin 3 → Fin 3 → EReal) d e

theorem r_v77 (b : Fin 64) (d e : Fin 3) : at3 (n := 3) (k := 3) (after opsR1 V (Proc.devRef .tc main_v77)) b d e = entries V b d e := by
  unfold opsR1
  after_results_simp
  try dsimp only [Matrix.cons_val]
  try after_results_simp
  try dsimp only [Matrix.cons_val]
  try after_results_simp
  clean_types
  unfold rows3 row3
  pointwise
  fin_cases d <;> fin_cases e <;> rfl

/-- The matrix the reference multiplies by is the rotation of the unit quaternion. -/
theorem v77_eq (b : Fin 64) (d e : Fin 3) :
    at3 (n := 3) (k := 3) (atR V (Proc.devRef .tc main_v77)) b d e = Math.rot (Math.unit (quat V b)) d e := by
  rw [atR, r_v77, entries, r_v17, r_v22, r_v27, r_v32, r_v39, r_v44, r_v49, r_coords, coords_q]
  fin_cases d <;> fin_cases e <;> rfl

/-! ## The transformed points -/

theorem t_v81 (b : Fin 64) (n : Fin 3000) (e : Fin 3) : at3 (n := 3000) (k := 3) (after opsT V (Proc.devRef .tc main_v81)) b n e
    = Math.point (model V b n) (fun d e => at3 (n := 3) (k := 3) (V (Proc.devRef .tc main_v77)) b d e) (shift V b) e := by
  unfold opsT; after_reads_at; rfl

/-- Transformed point `n` of instance `b`. -/
def moved (b : Fin 64) (n : Fin 3000) : Fin 3 → EReal := Math.point (model V b n) (Math.rot (Math.unit (quat V b))) (shift V b)

theorem v81_eq (b : Fin 64) (n : Fin 3000) (e : Fin 3) : at3 (n := 3000) (k := 3) (atT V (Proc.devRef .tc main_v81)) b n e = moved V b n e := by
  rw [atT, t_v81, show (fun d e => at3 (n := 3) (k := 3) (atR V (Proc.devRef .tc main_v77)) b d e) = Math.rot (Math.unit (quat V b)) from
    funext fun d => funext fun e => v77_eq V b d e]
  rw [show model (atR V) b n = model V b n from funext fun e => congrFun (atR_keep V main_arg3 (by decide)) (ix3 b n e),
    show shift (atR V) b = shift V b from funext fun e => congrFun (atR_keep V main_arg1 (by decide)) (ix2 b e)]
  rfl

/-! ## The squared distances -/

theorem d_v94 (b : Fin 64) (n j : Fin 3000) : at3 (n := 3000) (k := 3000) (after opsD V (Proc.devRef .tc main_v94)) b n j
    = Math.expanded (fun e => at3 (n := 3000) (k := 3) (V (Proc.devRef .tc main_v81)) b n e) (target V b j) := by
  unfold opsD; after_reads_at; rfl

theorem v94_eq (b : Fin 64) (n j : Fin 3000) : at3 (n := 3000) (k := 3000) (atD V (Proc.devRef .tc main_v94)) b n j
    = Math.expanded (moved V b n) (target V b j) := by
  rw [atD, d_v94, show (fun e => at3 (n := 3000) (k := 3) (atT V (Proc.devRef .tc main_v81)) b n e) = moved V b n from
    funext fun e => v81_eq V b n e]
  rw [show target (atT V) b j = target V b j from funext fun e =>
    congrFun ((atT_keep V main_arg2 (by decide)).trans (atR_keep V main_arg2 (by decide))) (ix3 b j e)]

end Cert.Proof.Ref

end
-- ==== Proof.Argmin.lean ====
/-
  THE REFERENCE'S SEARCH AND GATHER: the arg-min of a row is a place of the row at which it is least, and the gather reads
  the targets at that place.
-/
module

public import proofs.«01_k».proof.Proof.RefRead

@[expose] public section

set_option maxRecDepth 8192

noncomputable section

namespace Cert.Proof.Ref

open Cert.ReferenceIdeal Cert.ReferenceIdeal.Gen Idealize.ShloMosaic Idealize.ShloMosaic.TcCoe Idealize.SL.Sem Idealize.ShloMosaic.StableHlo

/-- One step keeps one of the two pairs, and the kept value is not above the other. -/
theorem reducer_cases (a b : EReal × BitVec 32) :
    (reducer_argmin_f32_i32 (F := Ideal) a b = a ∧ a.1 ≤ b.1) ∨ (reducer_argmin_f32_i32 (F := Ideal) a b = b ∧ b.1 ≤ a.1) := by
  obtain ⟨x, i⟩ := a
  obtain ⟨y, j⟩ := b
  rcases lt_trichotomy x y with h | h | h
  · left
    refine ⟨?_, h.le⟩
    simp [reducer_argmin_f32_i32, Ideal.cmpf_def, Ideal.cmp, h, h.ne, IntOp.ori, IntOp.andi, Scalar.select]
  · subst h
    by_cases hij : IntOp.cmpi .slt i j = 1#1
    · left
      refine ⟨?_, le_rfl⟩
      simp [reducer_argmin_f32_i32, Ideal.cmpf_def, Ideal.cmp, hij, IntOp.ori, IntOp.andi, Scalar.select]
    · right
      replace hij : IntOp.cmpi .slt i j = 0#1 := by
        revert hij; generalize IntOp.cmpi .slt i j = c; revert c; decide
      refine ⟨?_, le_rfl⟩
      simp [reducer_argmin_f32_i32, Ideal.cmpf_def, Ideal.cmp, hij, IntOp.ori, IntOp.andi, Scalar.select]
  · right
    refine ⟨?_, h.le⟩
    simp [reducer_argmin_f32_i32, Ideal.cmpf_def, Ideal.cmp, h.not_gt, h.ne', IntOp.ori, IntOp.andi, Scalar.select]

/-- The fold ends at the pair it began with or at one of the list, and its value is not above any. -/
theorem fold_least (l : List (EReal × BitVec 32)) (p : EReal × BitVec 32) :
    (∀ q ∈ l, (l.foldl (reducer_argmin_f32_i32 (F := Ideal)) p).1 ≤ q.1)
      ∧ (l.foldl (reducer_argmin_f32_i32 (F := Ideal)) p).1 ≤ p.1
      ∧ (l.foldl (reducer_argmin_f32_i32 (F := Ideal)) p = p ∨ l.foldl (reducer_argmin_f32_i32 (F := Ideal)) p ∈ l) := by
  induction l generalizing p with
  | nil => exact ⟨fun q hq => absurd hq List.not_mem_nil, le_rfl, .inl rfl⟩
  | cons a l ih =>
    rw [List.foldl_cons]
    rcases reducer_cases p a with ⟨h, hle⟩ | ⟨h, hle⟩ <;> rw [h]
    · obtain ⟨h1, h2, h3⟩ := ih p
      exact ⟨fun q hq => (List.mem_cons.1 hq).elim (fun e => e ▸ h2.trans hle) (h1 q), h2, h3.imp id (List.mem_cons_of_mem _)⟩
    · obtain ⟨h1, h2, h3⟩ := ih a
      exact ⟨fun q hq => (List.mem_cons.1 hq).elim (fun e => e ▸ h2) (h1 q), h2.trans hle,
        .inr (h3.elim (fun e => by rw [e]; exact List.mem_cons_self) (List.mem_cons_of_mem _))⟩

/-- The pairs of row `(b, n)`. -/
theorem mem_fiber (x : S64x3000x3000.Idx → EReal) (y : S64x3000x3000.Idx → BitVec 32) (b : Fin 64) (n : Fin 3000) (q : EReal × BitVec 32) :
    q ∈ Host.argReduceFiber x y reducesTo_S64x3000x3000_S64x3000_d2 (ix2 b n) ↔ ∃ k : Fin 3000, q = (x (ix3 b n k), y (ix3 b n k)) := by
  simp only [Host.argReduceFiber, List.mem_map, List.mem_filter, List.mem_finRange, true_and, decide_eq_true_eq]
  constructor
  · rintro ⟨p, hp, rfl⟩
    refine ⟨(S64x3000x3000.rowMajor.symm p) 2, ?_⟩
    have e : S64x3000x3000.rowMajor.symm p = ix3 b n ((S64x3000x3000.rowMajor.symm p) 2) := by
      generalize S64x3000x3000.rowMajor.symm p = i at hp
      have h0 := (Shape.ReducesTo.drop_apply_val_of_eq reducesTo_S64x3000x3000_S64x3000_d2 i 0 0).symm
      have h1 := (Shape.ReducesTo.drop_apply_val_of_eq reducesTo_S64x3000x3000_S64x3000_d2 i 1 1).symm
      rw [hp] at h0 h1
      funext a
      match a with
      | ⟨0, _⟩ => exact Fin.ext h0
      | ⟨1, _⟩ => exact Fin.ext h1
      | ⟨2, _⟩ => rfl
    rw [e]
    rfl
  · rintro ⟨k, rfl⟩
    refine ⟨S64x3000x3000.rowMajor (ix3 b n k), ?_, by rw [Equiv.symm_apply_apply]⟩
    rw [Equiv.symm_apply_apply]
    funext a
    match a with
    | ⟨0, _⟩ => exact Fin.ext (Shape.ReducesTo.drop_apply_val_of_eq reducesTo_S64x3000x3000_S64x3000_d2 (ix3 b n k) 0 0)
    | ⟨1, _⟩ => exact Fin.ext (Shape.ReducesTo.drop_apply_val_of_eq reducesTo_S64x3000x3000_S64x3000_d2 (ix3 b n k) 1 1)

variable (V : Valuation τ sig (Elt Ideal))

theorem a_v95 : after opsA V (Proc.devRef .tc main_v95) = fun j => (Host.argReduce (reducer_argmin_f32_i32 (F := Ideal)) (V (Proc.devRef .tc main_v94))
    (iotaInDim S64x3000x3000 32 2) (constant S_ .f32 0x7F800000#32) (constantI S_ 32 0#32) reducesTo_S64x3000x3000_S64x3000_d2 h_S_ j).2 := by
  after_results
  simp only [TRef.toBuf, TRef.ofBuf, cast_eq]

/-- The arg-min of row `(b, n)` is a place at which the row is least. -/
theorem v95_eq (b : Fin 64) (n : Fin 3000) : ∃ a : Fin 3000,
    (atA V (Proc.devRef .tc main_v95) : S64x3000.Idx → BitVec 32) (ix2 b n) = BitVec.ofNat 32 a.val
    ∧ ∀ j, Math.expanded (moved V b n) (target V b a) ≤ Math.expanded (moved V b n) (target V b j) := by
  rw [atA, a_v95, Ideal.argReduce_eq_reduce2]
  simp only [Host.reduce2_eq_foldl_fiber]
  obtain ⟨h1, -, h3⟩ := fold_least (Host.argReduceFiber (atD V (Proc.devRef .tc main_v94)) (iotaInDim S64x3000x3000 32 2)
    reducesTo_S64x3000x3000_S64x3000_d2 (ix2 b n)) ((⊤ : EReal), 0#32)
  have e0 : ((constant (F := Ideal) S_ .f32 0x7F800000#32) (Shape.Idx.first h_S_), (constantI S_ 32 0#32) (Shape.Idx.first h_S_))
      = ((⊤ : EReal), 0#32) := Prod.ext (by pointwise; simp [Ideal.ofBits, Ideal.ieee]) rfl
  rw [e0]
  generalize List.foldl (reducer_argmin_f32_i32 (F := Ideal)) ((⊤ : EReal), 0#32) _ = r at h1 h3 ⊢
  have hle : ∀ j, r.1 ≤ Math.expanded (moved V b n) (target V b j) := fun j =>
    (h1 _ ((mem_fiber _ _ b n _).2 ⟨j, rfl⟩)).trans_eq (v94_eq V b n j)
  rcases h3 with h3 | h3
  · exact ⟨0, by rw [h3]; rfl, fun j => le_top.trans (by have := hle j; rwa [h3] at this)⟩
  · obtain ⟨a, rfl⟩ := (mem_fiber _ _ b n _).1 h3
    exact ⟨a, rfl, fun j => (v94_eq V b n a).symm.trans_le (hle j)⟩

/-! ## The index and the gather -/

theorem toInt_place (a : Fin 3000) : (BitVec.ofNat 32 a.val).toInt = (a.val : ℤ) := by
  have := a.isLt
  rw [BitVec.toInt_ofNat', Int.bmod_eq_of_le] <;> omega

/-- A place is not negative, so the index is the arg-min itself. -/
theorem i_v101 (b : Fin 64) (n : Fin 3000) (a : Fin 3000)
    (h : (V (Proc.devRef .tc main_v95) : S64x3000.Idx → BitVec 32) (ix2 b n) = BitVec.ofNat 32 a.val) :
    (after opsI V (Proc.devRef .tc main_v101) : S64x3000x1.Idx → BitVec 32) (ix3 b n 0) = BitVec.ofNat 32 a.val := by
  unfold opsI
  after_reads_at
  rw [h]
  have hn : IntOp.cmpi .slt (BitVec.ofNat 32 a.val) 0#32 = 0#1 := by
    have : ¬ ((a.val : ℤ) < 0) := by omega
    simp [IntOp.cmpi, BitVec.slt, toInt_place, this]
  rw [hn]
  rfl

/-- The gather's axes, under a short name. -/
abbrev axes := gather_S64x3000x3_S64x3000x1_S64x3000x3_2_1_0_0_1_2_113

theorem gather_at (x : S64x3000x3.Idx → EReal) (i : IVec S64x3000x1 32) (b : Fin 64) (n : Fin 3000) (e : Fin 3) (a : Fin 3000)
    (h : i (ix3 b n 0) = BitVec.ofNat 32 a.val) : Host.gather axes x i (ix3 b n e) = x (ix3 b a e) := by
  unfold Host.gather
  congr 1
  funext c
  have hs : ∀ k, axes.siIdx (ix3 b n e) k = ix3 b n 0 := by
    intro k
    funext c
    match c with
    | ⟨0, _⟩ => rfl
    | ⟨1, _⟩ => rfl
    | ⟨2, _⟩ => exact Subsingleton.elim (α := Fin 1) _ _
  refine Fin.ext ?_
  match c with
  | ⟨0, _⟩ =>
    show axes.start (ix3 b n e) i 0 + axes.batchCoord (ix3 b n e) 0 + axes.offCoord (ix3 b n e) 0 = b.val
    have h1 : axes.start (ix3 b n e) i 0 = 0 := rfl
    have h2 : axes.batchCoord (ix3 b n e) 0 = b.val := rfl
    have h3 : axes.offCoord (ix3 b n e) 0 = 0 := rfl
    rw [h1, h2, h3]; omega
  | ⟨1, _⟩ =>
    show axes.start (ix3 b n e) i 1 + axes.batchCoord (ix3 b n e) 1 + axes.offCoord (ix3 b n e) 1 = a.val
    have h1 : axes.start (ix3 b n e) i 1 = a.val := by
      unfold GatherDims.start
      rw [dif_pos (by decide), hs, h, toInt_place]
      have := a.isLt
      show min a.val (3000 - 1) = a.val
      omega
    have h2 : axes.batchCoord (ix3 b n e) 1 = 0 := rfl
    have h3 : axes.offCoord (ix3 b n e) 1 = 0 := rfl
    rw [h1, h2, h3]; omega
  | ⟨2, _⟩ =>
    show axes.start (ix3 b n e) i 2 + axes.batchCoord (ix3 b n e) 2 + axes.offCoord (ix3 b n e) 2 = e.val
    have h1 : axes.start (ix3 b n e) i 2 = 0 := rfl
    have h2 : axes.batchCoord (ix3 b n e) 2 = 0 := rfl
    have h3 : axes.offCoord (ix3 b n e) 2 = e.val := rfl
    rw [h1, h2, h3]; omega

/-- What the gather leaves for point `n` is a target at which the expanded squared distance is least. -/
theorem v102_eq (b : Fin 64) (n : Fin 3000) : ∃ a : Fin 3000,
    (∀ e, at3 (n := 3000) (k := 3) (atG V (Proc.devRef .tc main_v102)) b n e = target V b a e)
    ∧ ∀ j, Math.expanded (moved V b n) (target V b a) ≤ Math.expanded (moved V b n) (target V b j) := by
  obtain ⟨a, ha, hle⟩ := v95_eq V b n
  refine ⟨a, fun e => ?_, hle⟩
  have h : atG V (Proc.devRef .tc main_v102) = Host.gather axes (atI V (Proc.devRef .tc main_arg2) : S64x3000x3.Idx → EReal)
      (atI V (Proc.devRef .tc main_v101) : IVec S64x3000x1 32) := by
    unfold atG; after_results
  rw [h]
  refine (gather_at _ _ b n e a (i_v101 (atA V) b n a ha)).trans ?_
  exact congrFun ((atI_keep V main_arg2 (by decide)).trans ((atA_keep V main_arg2 (by decide)).trans ((atD_keep V main_arg2 (by decide)).trans
    ((atT_keep V main_arg2 (by decide)).trans (atR_keep V main_arg2 (by decide)))))) (ix3 b a e)

/-! ## The symmetry and the loss -/

/-- The table of symmetric objects, and whether the object of instance `b` is in it. -/
def table (k : Fin 5) : BitVec 32 := lit0 (S5.rowMajor (ix1 k))
def symmetric (b : Fin 64) : BitVec 1 := Math.inTable table ((V (Proc.devRef .tc main_arg4) : S64x1.Idx → BitVec 32) (ix2 b 0))

theorem m_v110 (b : Fin 64) : (after opsM V (Proc.devRef .tc main_v110) : S64x1x1.Idx → BitVec 1) (ix3 b 0 0)
    = Math.inTable (fun k => (V (Proc.devRef .tc main_c) : S5.Idx → BitVec 32) (ix1 k)) ((V (Proc.devRef .tc main_arg4) : S64x1.Idx → BitVec 32) (ix2 b 0)) := by
  unfold opsM; after_reads_at; rfl

theorem q_c : after opsQ V (Proc.devRef .tc main_c) = fun i => lit0 (S5.rowMajor i) := by
  after_results
  rfl

theorem v110_eq (b : Fin 64) : (atM V (Proc.devRef .tc main_v110) : S64x1x1.Idx → BitVec 1) (ix3 b 0 0) = symmetric V b := by
  have hc : atG V (Proc.devRef .tc main_c) = fun i => lit0 (S5.rowMajor i) :=
    (atG_keep V main_c (by decide)).trans ((atI_keep V main_c (by decide)).trans ((atA_keep V main_c (by decide)).trans
      ((atD_keep V main_c (by decide)).trans ((atT_keep V main_c (by decide)).trans
        ((opsR1_keep _ main_c (by decide)).trans ((opsR0_keep _ main_c (by decide)).trans (q_c V)))))))
  have h4 : atG V (Proc.devRef .tc main_arg4) = V (Proc.devRef .tc main_arg4) :=
    (atG_keep V main_arg4 (by decide)).trans ((atI_keep V main_arg4 (by decide)).trans ((atA_keep V main_arg4 (by decide)).trans
      ((atD_keep V main_arg4 (by decide)).trans ((atT_keep V main_arg4 (by decide)).trans (atR_keep V main_arg4 (by decide))))))
  rw [atM, m_v110, hc, h4]
  rfl

theorem l_v116 (b : Fin 64) : at1 (after opsL V (Proc.devRef .tc main_v116)) b = Ideal.div (∑ n, Math.dist
    (fun e => at3 (n := 3000) (k := 3) (V (Proc.devRef .tc main_v81)) b n e)
     (fun e => Scalar.select ((V (Proc.devRef .tc main_v110) : S64x1x1.Idx → BitVec 1) (ix3 b 0 0))
       (at3 (n := 3000) (k := 3) (V (Proc.devRef .tc main_v102)) b n e) (at3 (n := 3000) (k := 3) (V (Proc.devRef .tc main_arg2)) b n e))) Math.count := by
  unfold opsL; after_reads_at; rfl

/-- THE REFERENCE'S RESULT: the mean distance of the transformed points to their targets, each to itself or, where the
    object is symmetric, to a nearest one. -/
theorem v116_eq (b : Fin 64) : ∃ a : Fin 3000 → Fin 3000,
    (∀ n j, Math.expanded (moved V b n) (target V b (a n)) ≤ Math.expanded (moved V b n) (target V b j))
    ∧ at1 (atL V (Proc.devRef .tc main_v116)) b
      = Ideal.div (∑ n, Math.dist (moved V b n) (fun e => Scalar.select (symmetric V b) (target V b (a n) e) (target V b n e))) Math.count := by
  choose a ha hle using v102_eq V b
  refine ⟨a, hle, ?_⟩
  have h81 : atM V (Proc.devRef .tc main_v81) = atT V (Proc.devRef .tc main_v81) :=
    (atM_keep V main_v81 (by decide)).trans ((atG_keep V main_v81 (by decide)).trans ((atI_keep V main_v81 (by decide)).trans
      ((atA_keep V main_v81 (by decide)).trans (atD_keep V main_v81 (by decide)))))
  have h2 : atM V (Proc.devRef .tc main_arg2) = V (Proc.devRef .tc main_arg2) :=
    (atM_keep V main_arg2 (by decide)).trans ((atG_keep V main_arg2 (by decide)).trans ((atI_keep V main_arg2 (by decide)).trans
      ((atA_keep V main_arg2 (by decide)).trans ((atD_keep V main_arg2 (by decide)).trans ((atT_keep V main_arg2 (by decide)).trans
        (atR_keep V main_arg2 (by decide)))))))
  rw [atL, l_v116, v110_eq, h81, h2, atM_keep V main_v102 (by decide)]
  refine congrArg (fun s => Ideal.div s Math.count) (Finset.sum_congr rfl fun n _ => ?_)
  rw [show (fun e => at3 (n := 3000) (k := 3) (atT V (Proc.devRef .tc main_v81)) b n e) = moved V b n from funext fun e => v81_eq V b n e]
  refine congrArg (Math.dist _) (funext fun e => ?_)
  rw [ha]

end Cert.Proof.Ref

end
-- ==== Proof.Algebraic.lean ====
/-
  THE VALUE CLAIM: from memories that agree on the arguments, the kernel and the reference end with one result.
-/
module

public import proofs.«01_k».proof.Defs
public import proofs.«01_k».proof.Proof.Value
public import proofs.«01_k».proof.Proof.Argmin

@[expose] public section

noncomputable section

namespace Cert.Proof.Same

open Idealize.ShloMosaic Idealize.ShloMosaic.TcCoe Idealize.ShloMosaic.StableHlo Idealize.SL.Sem
open Cert.KernelIdeal Cert.KernelIdeal.Gen Cert.Proof.IdealBody

/-- The kernel ends with its result at what the lines after the blocks leave, and its arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v103) = Pipeline.afterTail₀ cfgs (dats m) 0 (V0 m) [hostOps1] c main_v103
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨h.1.rest_eq c main_v103
      (Pipeline.mem_restRefs_of main_v103 rfl (fun w => by fin_cases w <;> exact fun e => by cases e)), h.2 c⟩)
    (θ_run_and (run_main m ρ) (frame_of m ρ (dats m) (A_eq m) (run_main m ρ)))

variable (m : (ℓ : Loc nD τ sig) → Buf (Elt Ideal) ℓ)
variable (m' : (ℓ : Loc Cert.ReferenceIdeal.nD Cert.ReferenceIdeal.τ Cert.ReferenceIdeal.sig) → Buf (Elt Ideal) ℓ)

/-- The two tables of symmetric objects are one. -/
theorem table_eq : (fun k => Cert.ReferenceIdeal.lit0 (Cert.ReferenceIdeal.S5.rowMajor (ix1 k)))
    = fun k : Fin 5 => Cert.KernelIdeal.lit0 (Cert.KernelIdeal.S5.rowMajor (ix1 k)) := by
  funext k; fin_cases k <;> rfl

/-- The precondition's table too. -/
theorem table_pre : (fun k => Cert.Pre_moderate.lit0 (Cert.Pre_moderate.S5.rowMajor (ix1 k)))
    = fun k : Fin 5 => Cert.KernelIdeal.lit0 (Cert.KernelIdeal.S5.rowMajor (ix1 k)) := by
  funext k; fin_cases k <;> rfl

/-- At equal and moderate arguments the two results are equal at every instance. -/
theorem value (c : Dev nD) (b : Fin 64)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (hmod : Host.symmetric (Run.start m c) b = 0#1 ∨ Math.Moderate (Host.quat (Run.start m c) b) (Host.shift (Run.start m c) b) (Host.target (Run.start m c) b) (Host.model (Run.start m c) b)) :
    Host.at1 (Ref.atL (launchContents m' c) (Proc.devRef .tc Cert.ReferenceIdeal.main_v116)) b
      = Host.at1 (Pipeline.afterTail₀ cfgs (dats m) 0 (V0 m) [hostOps1] c main_v103) b := by
  have hq : Ref.quat (launchContents m' c) b = Host.quat (Run.start m c) b := funext fun k => congrFun h0 _
  have ht : Ref.shift (launchContents m' c) b = Host.shift (Run.start m c) b := funext fun k => congrFun h1 _
  have hg : Ref.target (launchContents m' c) b = Host.target (Run.start m c) b := funext fun n => funext fun k => congrFun h2 _
  have hp : Ref.model (launchContents m' c) b = Host.model (Run.start m c) b := funext fun n => funext fun k => congrFun h3 _
  have hs : Ref.symmetric (launchContents m' c) b = Host.symmetric (Run.start m c) b :=
    congrArg₂ Math.inTable table_eq (congrFun h4 _)
  have hm : ∀ n, Ref.moved (launchContents m' c) b n = Run.moved m c b n := fun n => by
    unfold Ref.moved Run.moved; rw [hq, ht, hp]
  obtain ⟨a, ha, e⟩ := Ref.v116_eq (launchContents m' c) b
  simp only [hm, hs] at ha e
  rw [hg] at ha e
  rw [Run.v103_eq, Run.result_eq m c b hmod a ha]
  exact e

/-- The precondition at an instance of the kernel's memory. -/
theorem moderate_at (c : Dev nD) (b : Fin 64) (h : Cert.Pre_moderate.fn (F := Ideal) (m ((c.tc : Thread nD τ).loc main_arg0))
      (m ((c.tc : Thread nD τ).loc main_arg1)) (m ((c.tc : Thread nD τ).loc main_arg2)) (m ((c.tc : Thread nD τ).loc main_arg3))
      (m ((c.tc : Thread nD τ).loc main_arg4)) = fun _ => 1#1) :
    Host.symmetric (Run.start m c) b = 0#1
      ∨ Math.Moderate (Host.quat (Run.start m c) b) (Host.shift (Run.start m c) b) (Host.target (Run.start m c) b) (Host.model (Run.start m c) b) :=
  (Cert.Pre_moderate.Hand.moderate_of _ _ _ _ _ h b).imp (fun e => (congrArg (Math.inTable · _) table_pre.symm).trans e) id

end Cert.Proof.Same

namespace Cert.Proof

open Idealize.ShloMosaic Idealize.SL.Sem

/-- The value claim: on moderate arguments the kernel's mean distances are the reference's, at every instance. -/
theorem algebraic : Cert.algebraic_KernelIdeal_ReferenceIdeal_pre_moderate (hKernelIdeal := Cert.KernelIdeal.Gen.facts)
    (hReferenceIdeal := Cert.ReferenceIdeal.Gen.facts) (hPre_moderate := Cert.Pre_moderate.Hand.facts) := fun m g m' g' hpre hargs =>
  ⟨_, Same.run m g, (θ_run _ _ _).mono (fun _ h c => ⟨(h c).1.trans (funext fun i => by
      obtain ⟨h0, h1, h2, h3, h4⟩ := hargs c
      rw [show i = ix1 (i 0) from eq_ix1 i]
      exact Same.value m m' c (i 0) h0 h1 h2 h3 h4 (Same.moderate_at m c (i 0) (hpre c))), (h c).2⟩) (Ref.run m' g')⟩

end Cert.Proof

end
-- ==== Proof.lean ====
/-
  The proof of `Cert.Claim`: the frames from the hand runs of the three programs, the value claim from the two readings.
-/
module

public import proofs.«01_k».proof.Defs
public import proofs.«01_k».proof.Proof.KernelFrame
public import proofs.«01_k».proof.Proof.IdealBody
public import proofs.«01_k».proof.Proof.RefRun
public import proofs.«01_k».proof.Proof.Algebraic

@[expose] public section

noncomputable section

namespace Cert.Proof

open Idealize.ShloMosaic Idealize.SL.Sem

/-- All the claims: the frames of the three programs (those of the two idealized programs also on moderate arguments), that
    the kernel and its idealized text agree, and that kernel and reference end with one result. -/
theorem claim : Cert.Claim := ⟨Cert.Kernel.Gen.facts, Cert.KernelIdeal.Gen.facts, Cert.ReferenceIdeal.Gen.facts, Cert.Pre_moderate.Hand.facts,
  fun m g _ => KernelFrame.frame m g, fun m g _ => IdealBody.frame m g, fun m g _ => IdealBody.frame m g,
  fun m g _ => Ref.frame m g, fun m g _ => Ref.frame m g, trivial, algebraic⟩

end Cert.Proof

end
